-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x128 : Shape := ⟨2, ![2048, 128]⟩
abbrev S128x2048 : Shape := ⟨2, ![128, 2048]⟩
abbrev S2048x2048 : Shape := ⟨2, ![2048, 2048]⟩
abbrev S1024x2048 : Shape := ⟨2, ![1024, 2048]⟩
abbrev S1920x2048 : Shape := ⟨2, ![1920, 2048]⟩
abbrev S3x4 : Shape := ⟨2, ![3, 4]⟩
abbrev S3 : Shape := ⟨1, ![3]⟩
abbrev S_ : Shape := ⟨0, ![]⟩
abbrev S128x768 : Shape := ⟨2, ![128, 768]⟩
abbrev S2048x768 : Shape := ⟨2, ![2048, 768]⟩
abbrev S1x1 : Shape := ⟨2, ![1, 1]⟩
abbrev S512x768 : Shape := ⟨2, ![512, 768]⟩
abbrev S1 : Shape := ⟨1, ![1]⟩
abbrev S128x640 : Shape := ⟨2, ![128, 640]⟩
abbrev S2048x640 : Shape := ⟨2, ![2048, 640]⟩
abbrev S512x640 : Shape := ⟨2, ![512, 640]⟩
abbrev S256x768 : Shape := ⟨2, ![256, 768]⟩
abbrev S256x640 : Shape := ⟨2, ![256, 640]⟩

abbrev nBuf : Space → Nat
  | .hbm => 3
  | .vmem => 6
  | .smem => 0
  | _ => 0

abbrev bufTy : (tb : Table) → Fin (tcTables nBuf tb) → BufTy
  | .hbm, ⟨0, _⟩ => ⟨S2048x128, .bf16⟩
  | .hbm, ⟨1, _⟩ => ⟨S128x2048, .bf16⟩
  | .hbm, ⟨2, _⟩ => ⟨S2048x2048, .bf16⟩
  | .local _ .vmem, ⟨0, _⟩ => ⟨S2048x128, .bf16⟩
  | .local _ .vmem, ⟨1, _⟩ => ⟨S128x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1920x2048, .bf16⟩
  | _, _ => ⟨S2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_off1 (d0 : Dev nD) : Fin 2 → Nat :=
  let c0_i32_97 : BitVec 32 := 0#32
  let c1_i32_94 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c1_i32_33 : BitVec 32 := 1#32
  let v55 : BitVec 32 := Scalar.xori v31 c1_i32_33
  let v148 : BitVec 32 := Scalar.subi c1_i32_94 v55
  let c512_i32_95 : BitVec 32 := 512#32
  let v149 : BitVec 32 := Scalar.muli v148 c512_i32_95
  let v152 : BitVec 32 := Scalar.addi c0_i32_97 v149
  let c0_i32_104 : BitVec 32 := 0#32
  ![v152.toNat, 0]
def k0_off2 (d0 : Dev nD) : Fin 2 → Nat :=
  let c1_i32_92 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let v146 : BitVec 32 := Scalar.subi c1_i32_92 v23
  let c1024_i32_93 : BitVec 32 := 1024#32
  let v147 : BitVec 32 := Scalar.muli v146 c1024_i32_93
  let c1_i32_94 : BitVec 32 := 1#32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c1_i32_33 : BitVec 32 := 1#32
  let v55 : BitVec 32 := Scalar.xori v31 c1_i32_33
  let v148 : BitVec 32 := Scalar.subi c1_i32_94 v55
  let c512_i32_95 : BitVec 32 := 512#32
  let v149 : BitVec 32 := Scalar.muli v148 c512_i32_95
  let v151 : BitVec 32 := Scalar.addi v147 v149
  let c0_i32_105 : BitVec 32 := 0#32
  ![v151.toNat, 0]
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v136 : BitVec 32 := Scalar.xori v2 c1_i32_86
  let c1_i32_102 : BitVec 32 := 1#32
  let v153 : BitVec 32 := Scalar.muli v136 c1_i32_102
  let v154 : BitVec 32 := Scalar.addi c0_i32_103 v153
  v154.toNat
def k0_off3 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c1_i32_33 : BitVec 32 := 1#32
  let v55 : BitVec 32 := Scalar.xori v31 c1_i32_33
  let c512_i32_96 : BitVec 32 := 512#32
  let v150 : BitVec 32 := Scalar.muli v55 c512_i32_96
  let v162 : BitVec 32 := Scalar.addi c0_i32_106 v150
  let c0_i32_111 : BitVec 32 := 0#32
  ![v162.toNat, 0]
def k0_off4 (d0 : Dev nD) : Fin 2 → Nat :=
  let c1_i32_92 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let v146 : BitVec 32 := Scalar.subi c1_i32_92 v23
  let c1024_i32_93 : BitVec 32 := 1024#32
  let v147 : BitVec 32 := Scalar.muli v146 c1024_i32_93
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c1_i32_33 : BitVec 32 := 1#32
  let v55 : BitVec 32 := Scalar.xori v31 c1_i32_33
  let c512_i32_96 : BitVec 32 := 512#32
  let v150 : BitVec 32 := Scalar.muli v55 c512_i32_96
  let v161 : BitVec 32 := Scalar.addi v147 v150
  let c0_i32_112 : BitVec 32 := 0#32
  ![v161.toNat, 0]
def k0_dev6 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_86 : BitVec 32 := 1#32
  let v136 : BitVec 32 := Scalar.xori v2 c1_i32_86
  let c1_i32_109 : BitVec 32 := 1#32
  let v163 : BitVec 32 := Scalar.muli v136 c1_i32_109
  let v164 : BitVec 32 := Scalar.addi c0_i32_110 v163
  v164.toNat
def k0_off5 (d0 : Dev nD) : Fin 2 → Nat :=
  let c0_i32_125 : BitVec 32 := 0#32
  let c1_i32_122 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c0_i32_59 : BitVec 32 := 0#32
  let v95 : BitVec 32 := Scalar.xori v71 c0_i32_59
  let v183 : BitVec 32 := Scalar.subi c1_i32_122 v95
  let c512_i32_123 : BitVec 32 := 512#32
  let v184 : BitVec 32 := Scalar.muli v183 c512_i32_123
  let v187 : BitVec 32 := Scalar.addi c0_i32_125 v184
  let c768_i32 : BitVec 32 := 768#32
  ![v187.toNat, 768]
def k0_off6 (d0 : Dev nD) : Fin 2 → Nat :=
  let c1_i32_120 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let v181 : BitVec 32 := Scalar.subi c1_i32_120 v63
  let c1024_i32_121 : BitVec 32 := 1024#32
  let v182 : BitVec 32 := Scalar.muli v181 c1024_i32_121
  let c1_i32_122 : BitVec 32 := 1#32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c0_i32_59 : BitVec 32 := 0#32
  let v95 : BitVec 32 := Scalar.xori v71 c0_i32_59
  let v183 : BitVec 32 := Scalar.subi c1_i32_122 v95
  let c512_i32_123 : BitVec 32 := 512#32
  let v184 : BitVec 32 := Scalar.muli v183 c512_i32_123
  let v186 : BitVec 32 := Scalar.addi v182 v184
  let c768_i32_132 : BitVec 32 := 768#32
  ![v186.toNat, 768]
def k0_dev7 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_113 : BitVec 32 := 3#32
  let v171 : BitVec 32 := Scalar.xori v2 c3_i32_113
  let c1_i32_130 : BitVec 32 := 1#32
  let v188 : BitVec 32 := Scalar.muli v171 c1_i32_130
  let v189 : BitVec 32 := Scalar.addi c0_i32_131 v188
  v189.toNat
def k0_off7 (d0 : Dev nD) : Fin 2 → Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c0_i32_59 : BitVec 32 := 0#32
  let v95 : BitVec 32 := Scalar.xori v71 c0_i32_59
  let c512_i32_124 : BitVec 32 := 512#32
  let v185 : BitVec 32 := Scalar.muli v95 c512_i32_124
  let v197 : BitVec 32 := Scalar.addi c0_i32_133 v185
  let c768_i32_138 : BitVec 32 := 768#32
  ![v197.toNat, 768]
def k0_off8 (d0 : Dev nD) : Fin 2 → Nat :=
  let c1_i32_120 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let v181 : BitVec 32 := Scalar.subi c1_i32_120 v63
  let c1024_i32_121 : BitVec 32 := 1024#32
  let v182 : BitVec 32 := Scalar.muli v181 c1024_i32_121
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c0_i32_59 : BitVec 32 := 0#32
  let v95 : BitVec 32 := Scalar.xori v71 c0_i32_59
  let c512_i32_124 : BitVec 32 := 512#32
  let v185 : BitVec 32 := Scalar.muli v95 c512_i32_124
  let v196 : BitVec 32 := Scalar.addi v182 v185
  let c768_i32_139 : BitVec 32 := 768#32
  ![v196.toNat, 768]
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_113 : BitVec 32 := 3#32
  let v171 : BitVec 32 := Scalar.xori v2 c3_i32_113
  let c1_i32_136 : BitVec 32 := 1#32
  let v198 : BitVec 32 := Scalar.muli v171 c1_i32_136
  let v199 : BitVec 32 := Scalar.addi c0_i32_137 v198
  v199.toNat
def k0_off9 (d0 : Dev nD) : Fin 2 → Nat :=
  let c0_i32_152 : BitVec 32 := 0#32
  let c1_i32_149 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c0_i32_85 : BitVec 32 := 0#32
  let v135 : BitVec 32 := Scalar.xori v111 c0_i32_85
  let v218 : BitVec 32 := Scalar.subi c1_i32_149 v135
  let c512_i32_150 : BitVec 32 := 512#32
  let v219 : BitVec 32 := Scalar.muli v218 c512_i32_150
  let v222 : BitVec 32 := Scalar.addi c0_i32_152 v219
  let c1408_i32 : BitVec 32 := 1408#32
  ![v222.toNat, 1408]
def k0_off10 (d0 : Dev nD) : Fin 2 → Nat :=
  let c1_i32_147 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let v216 : BitVec 32 := Scalar.subi c1_i32_147 v103
  let c1024_i32_148 : BitVec 32 := 1024#32
  let v217 : BitVec 32 := Scalar.muli v216 c1024_i32_148
  let c1_i32_149 : BitVec 32 := 1#32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c0_i32_85 : BitVec 32 := 0#32
  let v135 : BitVec 32 := Scalar.xori v111 c0_i32_85
  let v218 : BitVec 32 := Scalar.subi c1_i32_149 v135
  let c512_i32_150 : BitVec 32 := 512#32
  let v219 : BitVec 32 := Scalar.muli v218 c512_i32_150
  let v221 : BitVec 32 := Scalar.addi v217 v219
  let c1408_i32_159 : BitVec 32 := 1408#32
  ![v221.toNat, 1408]
def k0_dev9 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_140 : BitVec 32 := 4#32
  let v206 : BitVec 32 := Scalar.xori v2 c4_i32_140
  let c1_i32_157 : BitVec 32 := 1#32
  let v223 : BitVec 32 := Scalar.muli v206 c1_i32_157
  let v224 : BitVec 32 := Scalar.addi c0_i32_158 v223
  v224.toNat
def k0_off11 (d0 : Dev nD) : Fin 2 → Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c0_i32_85 : BitVec 32 := 0#32
  let v135 : BitVec 32 := Scalar.xori v111 c0_i32_85
  let c512_i32_151 : BitVec 32 := 512#32
  let v220 : BitVec 32 := Scalar.muli v135 c512_i32_151
  let v232 : BitVec 32 := Scalar.addi c0_i32_160 v220
  let c1408_i32_165 : BitVec 32 := 1408#32
  ![v232.toNat, 1408]
def k0_off12 (d0 : Dev nD) : Fin 2 → Nat :=
  let c1_i32_147 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let v216 : BitVec 32 := Scalar.subi c1_i32_147 v103
  let c1024_i32_148 : BitVec 32 := 1024#32
  let v217 : BitVec 32 := Scalar.muli v216 c1024_i32_148
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c0_i32_85 : BitVec 32 := 0#32
  let v135 : BitVec 32 := Scalar.xori v111 c0_i32_85
  let c512_i32_151 : BitVec 32 := 512#32
  let v220 : BitVec 32 := Scalar.muli v135 c512_i32_151
  let v231 : BitVec 32 := Scalar.addi v217 v220
  let c1408_i32_166 : BitVec 32 := 1408#32
  ![v231.toNat, 1408]
def k0_dev10 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_140 : BitVec 32 := 4#32
  let v206 : BitVec 32 := Scalar.xori v2 c4_i32_140
  let c1_i32_163 : BitVec 32 := 1#32
  let v233 : BitVec 32 := Scalar.muli v206 c1_i32_163
  let v234 : BitVec 32 := Scalar.addi c0_i32_164 v233
  v234.toNat
def k0_off13 (d0 : Dev nD) : Fin 2 → Nat :=
  let c0_i32_170 : BitVec 32 := 0#32
  let c1_i32_168 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let v242 : BitVec 32 := Scalar.subi c1_i32_168 v31
  let c512_i32_169 : BitVec 32 := 512#32
  let v243 : BitVec 32 := Scalar.muli v242 c512_i32_169
  let v244 : BitVec 32 := Scalar.addi c0_i32_170 v243
  let c0_i32_177 : BitVec 32 := 0#32
  ![v244.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let c1024_i32 : BitVec 32 := 1024#32
  let v48 : BitVec 32 := Scalar.muli v23 c1024_i32
  let c1_i32_168 : BitVec 32 := 1#32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let v242 : BitVec 32 := Scalar.subi c1_i32_168 v31
  let c512_i32_169 : BitVec 32 := 512#32
  let v243 : BitVec 32 := Scalar.muli v242 c512_i32_169
  let v251 : BitVec 32 := Scalar.addi v48 v243
  let v252 : Index := Scalar.indexCast v251
  let c0_180 : Index := 0#32
  ![v252.toNat, 0]
def k0_off15 (d0 : Dev nD) : Fin 2 → Nat :=
  let c0_i32_181 : BitVec 32 := 0#32
  let c1_i32_168 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let v242 : BitVec 32 := Scalar.subi c1_i32_168 v31
  let c512_i32_169 : BitVec 32 := 512#32
  let v243 : BitVec 32 := Scalar.muli v242 c512_i32_169
  let v254 : BitVec 32 := Scalar.addi c0_i32_181 v243
  let v255 : Index := Scalar.indexCast v254
  let c0_182 : Index := 0#32
  ![v255.toNat, 0]
def k0_off16 (d0 : Dev nD) : Fin 2 → Nat :=
  let c1_i32_168 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let v242 : BitVec 32 := Scalar.subi c1_i32_168 v31
  let c512_i32_169 : BitVec 32 := 512#32
  let v243 : BitVec 32 := Scalar.muli v242 c512_i32_169
  let v258 : Index := Scalar.indexCast v243
  let c0_183 : Index := 0#32
  ![v258.toNat, 0]
def k0_off17 (d0 : Dev nD) : Fin 2 → Nat :=
  let c1_i32_168 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let v242 : BitVec 32 := Scalar.subi c1_i32_168 v31
  let c512_i32_169 : BitVec 32 := 512#32
  let v243 : BitVec 32 := Scalar.muli v242 c512_i32_169
  let c0_i32_192 : BitVec 32 := 0#32
  ![v243.toNat, 0]
def k0_dev11 (d0 : Dev nD) : Nat :=
  let c0_i32_189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_167 : BitVec 32 := 3#32
  let v241 : BitVec 32 := Scalar.xori v2 c3_i32_167
  let c1_i32_188 : BitVec 32 := 1#32
  let v262 : BitVec 32 := Scalar.muli v241 c1_i32_188
  let v263 : BitVec 32 := Scalar.addi c0_i32_189 v262
  v263.toNat
def k0_off18 (d0 : Dev nD) : Fin 2 → Nat :=
  let c0_i32_196 : BitVec 32 := 0#32
  let c1_i32_194 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let v271 : BitVec 32 := Scalar.subi c1_i32_194 v71
  let c512_i32_195 : BitVec 32 := 512#32
  let v272 : BitVec 32 := Scalar.muli v271 c512_i32_195
  let v273 : BitVec 32 := Scalar.addi c0_i32_196 v272
  let c768_i32_203 : BitVec 32 := 768#32
  ![v273.toNat, 768]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let c1024_i32_54 : BitVec 32 := 1024#32
  let v88 : BitVec 32 := Scalar.muli v63 c1024_i32_54
  let c1_i32_194 : BitVec 32 := 1#32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let v271 : BitVec 32 := Scalar.subi c1_i32_194 v71
  let c512_i32_195 : BitVec 32 := 512#32
  let v272 : BitVec 32 := Scalar.muli v271 c512_i32_195
  let v280 : BitVec 32 := Scalar.addi v88 v272
  let v281 : Index := Scalar.indexCast v280
  let c768_206 : Index := 768#32
  ![v281.toNat, 768]
def k0_off20 (d0 : Dev nD) : Fin 2 → Nat :=
  let c0_i32_207 : BitVec 32 := 0#32
  let c1_i32_194 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let v271 : BitVec 32 := Scalar.subi c1_i32_194 v71
  let c512_i32_195 : BitVec 32 := 512#32
  let v272 : BitVec 32 := Scalar.muli v271 c512_i32_195
  let v283 : BitVec 32 := Scalar.addi c0_i32_207 v272
  let v284 : Index := Scalar.indexCast v283
  let c768_208 : Index := 768#32
  ![v284.toNat, 768]
def k0_off21 (d0 : Dev nD) : Fin 2 → Nat :=
  let c1_i32_194 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let v271 : BitVec 32 := Scalar.subi c1_i32_194 v71
  let c512_i32_195 : BitVec 32 := 512#32
  let v272 : BitVec 32 := Scalar.muli v271 c512_i32_195
  let v287 : Index := Scalar.indexCast v272
  let c768_209 : Index := 768#32
  ![v287.toNat, 768]
def k0_off22 (d0 : Dev nD) : Fin 2 → Nat :=
  let c1_i32_194 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let v271 : BitVec 32 := Scalar.subi c1_i32_194 v71
  let c512_i32_195 : BitVec 32 := 512#32
  let v272 : BitVec 32 := Scalar.muli v271 c512_i32_195
  let c768_i32_218 : BitVec 32 := 768#32
  ![v272.toNat, 768]
def k0_dev12 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_193 : BitVec 32 := 4#32
  let v270 : BitVec 32 := Scalar.xori v2 c4_i32_193
  let c1_i32_214 : BitVec 32 := 1#32
  let v291 : BitVec 32 := Scalar.muli v270 c1_i32_214
  let v292 : BitVec 32 := Scalar.addi c0_i32_215 v291
  v292.toNat
def k0_off23 (d0 : Dev nD) : Fin 2 → Nat :=
  let c0_i32_222 : BitVec 32 := 0#32
  let c1_i32_220 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let v300 : BitVec 32 := Scalar.subi c1_i32_220 v111
  let c512_i32_221 : BitVec 32 := 512#32
  let v301 : BitVec 32 := Scalar.muli v300 c512_i32_221
  let v302 : BitVec 32 := Scalar.addi c0_i32_222 v301
  let c1408_i32_229 : BitVec 32 := 1408#32
  ![v302.toNat, 1408]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let c1024_i32_80 : BitVec 32 := 1024#32
  let v128 : BitVec 32 := Scalar.muli v103 c1024_i32_80
  let c1_i32_220 : BitVec 32 := 1#32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let v300 : BitVec 32 := Scalar.subi c1_i32_220 v111
  let c512_i32_221 : BitVec 32 := 512#32
  let v301 : BitVec 32 := Scalar.muli v300 c512_i32_221
  let v309 : BitVec 32 := Scalar.addi v128 v301
  let v310 : Index := Scalar.indexCast v309
  let c1408_232 : Index := 1408#32
  ![v310.toNat, 1408]
def k0_off25 (d0 : Dev nD) : Fin 2 → Nat :=
  let c0_i32_233 : BitVec 32 := 0#32
  let c1_i32_220 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let v300 : BitVec 32 := Scalar.subi c1_i32_220 v111
  let c512_i32_221 : BitVec 32 := 512#32
  let v301 : BitVec 32 := Scalar.muli v300 c512_i32_221
  let v312 : BitVec 32 := Scalar.addi c0_i32_233 v301
  let v313 : Index := Scalar.indexCast v312
  let c1408_234 : Index := 1408#32
  ![v313.toNat, 1408]
def k0_off26 (d0 : Dev nD) : Fin 2 → Nat :=
  let c1_i32_220 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let v300 : BitVec 32 := Scalar.subi c1_i32_220 v111
  let c512_i32_221 : BitVec 32 := 512#32
  let v301 : BitVec 32 := Scalar.muli v300 c512_i32_221
  let v316 : Index := Scalar.indexCast v301
  let c1408_235 : Index := 1408#32
  ![v316.toNat, 1408]
def k0_off27 (d0 : Dev nD) : Fin 2 → Nat :=
  let c1_i32_220 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let v300 : BitVec 32 := Scalar.subi c1_i32_220 v111
  let c512_i32_221 : BitVec 32 := 512#32
  let v301 : BitVec 32 := Scalar.muli v300 c512_i32_221
  let c1408_i32_244 : BitVec 32 := 1408#32
  ![v301.toNat, 1408]
def k0_dev13 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_219 : BitVec 32 := 1#32
  let v299 : BitVec 32 := Scalar.xori v2 c1_i32_219
  let c1_i32_240 : BitVec 32 := 1#32
  let v320 : BitVec 32 := Scalar.muli v299 c1_i32_240
  let v321 : BitVec 32 := Scalar.addi c0_i32_241 v320
  v321.toNat
def k0_off28 (d0 : Dev nD) : Fin 2 → Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32_246 : BitVec 32 := 512#32
  let v329 : BitVec 32 := Scalar.muli v31 c512_i32_246
  let v330 : BitVec 32 := Scalar.addi c0_i32_247 v329
  let c0_i32_252 : BitVec 32 := 0#32
  ![v330.toNat, 0]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let c1024_i32 : BitVec 32 := 1024#32
  let v48 : BitVec 32 := Scalar.muli v23 c1024_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32_246 : BitVec 32 := 512#32
  let v329 : BitVec 32 := Scalar.muli v31 c512_i32_246
  let v343 : BitVec 32 := Scalar.addi v48 v329
  let v344 : Index := Scalar.indexCast v343
  let c0_265 : Index := 0#32
  ![v344.toNat, 0]
def k0_off30 (d0 : Dev nD) : Fin 2 → Nat :=
  let c0_i32_266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32_246 : BitVec 32 := 512#32
  let v329 : BitVec 32 := Scalar.muli v31 c512_i32_246
  let v346 : BitVec 32 := Scalar.addi c0_i32_266 v329
  let v347 : Index := Scalar.indexCast v346
  let c0_267 : Index := 0#32
  ![v347.toNat, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32 : BitVec 32 := 512#32
  let v49 : BitVec 32 := Scalar.muli v31 c512_i32
  let v352 : Index := Scalar.indexCast v49
  let c0_269 : Index := 0#32
  ![v352.toNat, 0]
def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32 : BitVec 32 := 512#32
  let v49 : BitVec 32 := Scalar.muli v31 c512_i32
  let c1_i32_270 : BitVec 32 := 1#32
  let c4_i32_22 : BitVec 32 := 4#32
  let v32 : BitVec 32 := Scalar.andi v2 c4_i32_22
  let c1_i32_23 : BitVec 32 := 1#32
  let v33 : BitVec 32 := Scalar.shrsi v32 c1_i32_23
  let v34 : BitVec 32 := Scalar.xori v32 v33
  let c2_i32_24 : BitVec 32 := 2#32
  let v35 : BitVec 32 := Scalar.shrsi v32 c2_i32_24
  let v36 : BitVec 32 := Scalar.xori v34 v35
  let c3_i32_25 : BitVec 32 := 3#32
  let v37 : BitVec 32 := Scalar.shrsi v32 c3_i32_25
  let v38 : BitVec 32 := Scalar.xori v36 v37
  let c1_i32_26 : BitVec 32 := 1#32
  let v39 : BitVec 32 := Scalar.andi v38 c1_i32_26
  let v356 : BitVec 32 := Scalar.subi c1_i32_270 v39
  let c256_i32_271 : BitVec 32 := 256#32
  let v357 : BitVec 32 := Scalar.muli v356 c256_i32_271
  let v358 : BitVec 32 := Scalar.addi v49 v357
  let c0_i32_279 : BitVec 32 := 0#32
  ![v358.toNat, 0]
def k0_dev14 (d0 : Dev nD) : Nat :=
  let c0_i32_277 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_245 : BitVec 32 := 4#32
  let v328 : BitVec 32 := Scalar.xori v2 c4_i32_245
  let c1_i32_276 : BitVec 32 := 1#32
  let v359 : BitVec 32 := Scalar.muli v328 c1_i32_276
  let v360 : BitVec 32 := Scalar.addi c0_i32_277 v359
  v360.toNat
def k0_off33 (d0 : Dev nD) : Fin 2 → Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_281 : BitVec 32 := 512#32
  let v368 : BitVec 32 := Scalar.muli v71 c512_i32_281
  let v369 : BitVec 32 := Scalar.addi c0_i32_282 v368
  let c768_i32_287 : BitVec 32 := 768#32
  ![v369.toNat, 768]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let c1024_i32_54 : BitVec 32 := 1024#32
  let v88 : BitVec 32 := Scalar.muli v63 c1024_i32_54
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_281 : BitVec 32 := 512#32
  let v368 : BitVec 32 := Scalar.muli v71 c512_i32_281
  let v382 : BitVec 32 := Scalar.addi v88 v368
  let v383 : Index := Scalar.indexCast v382
  let c768_300 : Index := 768#32
  ![v383.toNat, 768]
def k0_off35 (d0 : Dev nD) : Fin 2 → Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_281 : BitVec 32 := 512#32
  let v368 : BitVec 32 := Scalar.muli v71 c512_i32_281
  let v385 : BitVec 32 := Scalar.addi c0_i32_301 v368
  let v386 : Index := Scalar.indexCast v385
  let c768_302 : Index := 768#32
  ![v386.toNat, 768]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_55 : BitVec 32 := 512#32
  let v89 : BitVec 32 := Scalar.muli v71 c512_i32_55
  let v391 : Index := Scalar.indexCast v89
  let c768_305 : Index := 768#32
  ![v391.toNat, 768]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_55 : BitVec 32 := 512#32
  let v89 : BitVec 32 := Scalar.muli v71 c512_i32_55
  let c1_i32_306 : BitVec 32 := 1#32
  let c1_i32_44 : BitVec 32 := 1#32
  let v72 : BitVec 32 := Scalar.andi v2 c1_i32_44
  let c1_i32_45 : BitVec 32 := 1#32
  let v73 : BitVec 32 := Scalar.shrsi v72 c1_i32_45
  let v74 : BitVec 32 := Scalar.xori v72 v73
  let c2_i32_46 : BitVec 32 := 2#32
  let v75 : BitVec 32 := Scalar.shrsi v72 c2_i32_46
  let v76 : BitVec 32 := Scalar.xori v74 v75
  let c3_i32_47 : BitVec 32 := 3#32
  let v77 : BitVec 32 := Scalar.shrsi v72 c3_i32_47
  let v78 : BitVec 32 := Scalar.xori v76 v77
  let c1_i32_48 : BitVec 32 := 1#32
  let v79 : BitVec 32 := Scalar.andi v78 c1_i32_48
  let v395 : BitVec 32 := Scalar.subi c1_i32_306 v79
  let c256_i32_307 : BitVec 32 := 256#32
  let v396 : BitVec 32 := Scalar.muli v395 c256_i32_307
  let v397 : BitVec 32 := Scalar.addi v89 v396
  let c768_i32_316 : BitVec 32 := 768#32
  ![v397.toNat, 768]
def k0_dev15 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_280 : BitVec 32 := 1#32
  let v367 : BitVec 32 := Scalar.xori v2 c1_i32_280
  let c1_i32_312 : BitVec 32 := 1#32
  let v398 : BitVec 32 := Scalar.muli v367 c1_i32_312
  let v399 : BitVec 32 := Scalar.addi c0_i32_313 v398
  v399.toNat
def k0_off38 (d0 : Dev nD) : Fin 2 → Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_318 : BitVec 32 := 512#32
  let v407 : BitVec 32 := Scalar.muli v111 c512_i32_318
  let v408 : BitVec 32 := Scalar.addi c0_i32_319 v407
  let c1408_i32_324 : BitVec 32 := 1408#32
  ![v408.toNat, 1408]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let c1024_i32_80 : BitVec 32 := 1024#32
  let v128 : BitVec 32 := Scalar.muli v103 c1024_i32_80
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_318 : BitVec 32 := 512#32
  let v407 : BitVec 32 := Scalar.muli v111 c512_i32_318
  let v421 : BitVec 32 := Scalar.addi v128 v407
  let v422 : Index := Scalar.indexCast v421
  let c1408_337 : Index := 1408#32
  ![v422.toNat, 1408]
def k0_off40 (d0 : Dev nD) : Fin 2 → Nat :=
  let c0_i32_338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_318 : BitVec 32 := 512#32
  let v407 : BitVec 32 := Scalar.muli v111 c512_i32_318
  let v424 : BitVec 32 := Scalar.addi c0_i32_338 v407
  let v425 : Index := Scalar.indexCast v424
  let c1408_339 : Index := 1408#32
  ![v425.toNat, 1408]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_81 : BitVec 32 := 512#32
  let v129 : BitVec 32 := Scalar.muli v111 c512_i32_81
  let v430 : Index := Scalar.indexCast v129
  let c1408_342 : Index := 1408#32
  ![v430.toNat, 1408]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_81 : BitVec 32 := 512#32
  let v129 : BitVec 32 := Scalar.muli v111 c512_i32_81
  let c1_i32_343 : BitVec 32 := 1#32
  let c1_i32_70 : BitVec 32 := 1#32
  let v112 : BitVec 32 := Scalar.andi v2 c1_i32_70
  let c1_i32_71 : BitVec 32 := 1#32
  let v113 : BitVec 32 := Scalar.shrsi v112 c1_i32_71
  let v114 : BitVec 32 := Scalar.xori v112 v113
  let c2_i32_72 : BitVec 32 := 2#32
  let v115 : BitVec 32 := Scalar.shrsi v112 c2_i32_72
  let v116 : BitVec 32 := Scalar.xori v114 v115
  let c3_i32_73 : BitVec 32 := 3#32
  let v117 : BitVec 32 := Scalar.shrsi v112 c3_i32_73
  let v118 : BitVec 32 := Scalar.xori v116 v117
  let c1_i32_74 : BitVec 32 := 1#32
  let v119 : BitVec 32 := Scalar.andi v118 c1_i32_74
  let v434 : BitVec 32 := Scalar.subi c1_i32_343 v119
  let c256_i32_344 : BitVec 32 := 256#32
  let v435 : BitVec 32 := Scalar.muli v434 c256_i32_344
  let v436 : BitVec 32 := Scalar.addi v129 v435
  let c1408_i32_353 : BitVec 32 := 1408#32
  ![v436.toNat, 1408]
def k0_dev16 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_317 : BitVec 32 := 3#32
  let v406 : BitVec 32 := Scalar.xori v2 c3_i32_317
  let c1_i32_349 : BitVec 32 := 1#32
  let v437 : BitVec 32 := Scalar.muli v406 c1_i32_349
  let v438 : BitVec 32 := Scalar.addi c0_i32_350 v437
  v438.toNat
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32_32 : BitVec 32 := 512#32
  let v50 : BitVec 32 := Scalar.muli v31 c512_i32_32
  let c4_i32_22 : BitVec 32 := 4#32
  let v32 : BitVec 32 := Scalar.andi v2 c4_i32_22
  let c1_i32_23 : BitVec 32 := 1#32
  let v33 : BitVec 32 := Scalar.shrsi v32 c1_i32_23
  let v34 : BitVec 32 := Scalar.xori v32 v33
  let c2_i32_24 : BitVec 32 := 2#32
  let v35 : BitVec 32 := Scalar.shrsi v32 c2_i32_24
  let v36 : BitVec 32 := Scalar.xori v34 v35
  let c3_i32_25 : BitVec 32 := 3#32
  let v37 : BitVec 32 := Scalar.shrsi v32 c3_i32_25
  let v38 : BitVec 32 := Scalar.xori v36 v37
  let c1_i32_26 : BitVec 32 := 1#32
  let v39 : BitVec 32 := Scalar.andi v38 c1_i32_26
  let c256_i32 : BitVec 32 := 256#32
  let v51 : BitVec 32 := Scalar.muli v39 c256_i32
  let v52 : BitVec 32 := Scalar.addi v50 v51
  let v452 : Index := Scalar.indexCast v52
  let c0_365 : Index := 0#32
  ![v452.toNat, 0]
def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32_32 : BitVec 32 := 512#32
  let v50 : BitVec 32 := Scalar.muli v31 c512_i32_32
  let c4_i32_22 : BitVec 32 := 4#32
  let v32 : BitVec 32 := Scalar.andi v2 c4_i32_22
  let c1_i32_23 : BitVec 32 := 1#32
  let v33 : BitVec 32 := Scalar.shrsi v32 c1_i32_23
  let v34 : BitVec 32 := Scalar.xori v32 v33
  let c2_i32_24 : BitVec 32 := 2#32
  let v35 : BitVec 32 := Scalar.shrsi v32 c2_i32_24
  let v36 : BitVec 32 := Scalar.xori v34 v35
  let c3_i32_25 : BitVec 32 := 3#32
  let v37 : BitVec 32 := Scalar.shrsi v32 c3_i32_25
  let v38 : BitVec 32 := Scalar.xori v36 v37
  let c1_i32_26 : BitVec 32 := 1#32
  let v39 : BitVec 32 := Scalar.andi v38 c1_i32_26
  let c256_i32 : BitVec 32 := 256#32
  let v51 : BitVec 32 := Scalar.muli v39 c256_i32
  let v52 : BitVec 32 := Scalar.addi v50 v51
  let c1_i32_368 : BitVec 32 := 1#32
  let c8_i32_27 : BitVec 32 := 8#32
  let v40 : BitVec 32 := Scalar.andi v2 c8_i32_27
  let c1_i32_28 : BitVec 32 := 1#32
  let v41 : BitVec 32 := Scalar.shrsi v40 c1_i32_28
  let v42 : BitVec 32 := Scalar.xori v40 v41
  let c2_i32_29 : BitVec 32 := 2#32
  let v43 : BitVec 32 := Scalar.shrsi v40 c2_i32_29
  let v44 : BitVec 32 := Scalar.xori v42 v43
  let c3_i32_30 : BitVec 32 := 3#32
  let v45 : BitVec 32 := Scalar.shrsi v40 c3_i32_30
  let v46 : BitVec 32 := Scalar.xori v44 v45
  let c1_i32_31 : BitVec 32 := 1#32
  let v47 : BitVec 32 := Scalar.andi v46 c1_i32_31
  let v460 : BitVec 32 := Scalar.subi c1_i32_368 v47
  let c128_i32_369 : BitVec 32 := 128#32
  let v461 : BitVec 32 := Scalar.muli v460 c128_i32_369
  let v462 : BitVec 32 := Scalar.addi v52 v461
  let c0_i32_377 : BitVec 32 := 0#32
  ![v462.toNat, 0]
def k0_dev17 (d0 : Dev nD) : Nat :=
  let c0_i32_375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_354 : BitVec 32 := 8#32
  let v445 : BitVec 32 := Scalar.xori v2 c8_i32_354
  let c1_i32_374 : BitVec 32 := 1#32
  let v463 : BitVec 32 := Scalar.muli v445 c1_i32_374
  let v464 : BitVec 32 := Scalar.addi c0_i32_375 v463
  v464.toNat
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_56 : BitVec 32 := 512#32
  let v90 : BitVec 32 := Scalar.muli v71 c512_i32_56
  let c1_i32_44 : BitVec 32 := 1#32
  let v72 : BitVec 32 := Scalar.andi v2 c1_i32_44
  let c1_i32_45 : BitVec 32 := 1#32
  let v73 : BitVec 32 := Scalar.shrsi v72 c1_i32_45
  let v74 : BitVec 32 := Scalar.xori v72 v73
  let c2_i32_46 : BitVec 32 := 2#32
  let v75 : BitVec 32 := Scalar.shrsi v72 c2_i32_46
  let v76 : BitVec 32 := Scalar.xori v74 v75
  let c3_i32_47 : BitVec 32 := 3#32
  let v77 : BitVec 32 := Scalar.shrsi v72 c3_i32_47
  let v78 : BitVec 32 := Scalar.xori v76 v77
  let c1_i32_48 : BitVec 32 := 1#32
  let v79 : BitVec 32 := Scalar.andi v78 c1_i32_48
  let c256_i32_57 : BitVec 32 := 256#32
  let v91 : BitVec 32 := Scalar.muli v79 c256_i32_57
  let v92 : BitVec 32 := Scalar.addi v90 v91
  let v478 : Index := Scalar.indexCast v92
  let c768_389 : Index := 768#32
  ![v478.toNat, 768]
def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_56 : BitVec 32 := 512#32
  let v90 : BitVec 32 := Scalar.muli v71 c512_i32_56
  let c1_i32_44 : BitVec 32 := 1#32
  let v72 : BitVec 32 := Scalar.andi v2 c1_i32_44
  let c1_i32_45 : BitVec 32 := 1#32
  let v73 : BitVec 32 := Scalar.shrsi v72 c1_i32_45
  let v74 : BitVec 32 := Scalar.xori v72 v73
  let c2_i32_46 : BitVec 32 := 2#32
  let v75 : BitVec 32 := Scalar.shrsi v72 c2_i32_46
  let v76 : BitVec 32 := Scalar.xori v74 v75
  let c3_i32_47 : BitVec 32 := 3#32
  let v77 : BitVec 32 := Scalar.shrsi v72 c3_i32_47
  let v78 : BitVec 32 := Scalar.xori v76 v77
  let c1_i32_48 : BitVec 32 := 1#32
  let v79 : BitVec 32 := Scalar.andi v78 c1_i32_48
  let c256_i32_57 : BitVec 32 := 256#32
  let v91 : BitVec 32 := Scalar.muli v79 c256_i32_57
  let v92 : BitVec 32 := Scalar.addi v90 v91
  let c1_i32_393 : BitVec 32 := 1#32
  let c8_i32_49 : BitVec 32 := 8#32
  let v80 : BitVec 32 := Scalar.andi v2 c8_i32_49
  let c1_i32_50 : BitVec 32 := 1#32
  let v81 : BitVec 32 := Scalar.shrsi v80 c1_i32_50
  let v82 : BitVec 32 := Scalar.xori v80 v81
  let c2_i32_51 : BitVec 32 := 2#32
  let v83 : BitVec 32 := Scalar.shrsi v80 c2_i32_51
  let v84 : BitVec 32 := Scalar.xori v82 v83
  let c3_i32_52 : BitVec 32 := 3#32
  let v85 : BitVec 32 := Scalar.shrsi v80 c3_i32_52
  let v86 : BitVec 32 := Scalar.xori v84 v85
  let c1_i32_53 : BitVec 32 := 1#32
  let v87 : BitVec 32 := Scalar.andi v86 c1_i32_53
  let v486 : BitVec 32 := Scalar.subi c1_i32_393 v87
  let c128_i32_394 : BitVec 32 := 128#32
  let v487 : BitVec 32 := Scalar.muli v486 c128_i32_394
  let v488 : BitVec 32 := Scalar.addi v92 v487
  let c768_i32_403 : BitVec 32 := 768#32
  ![v488.toNat, 768]
def k0_dev18 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_378 : BitVec 32 := 8#32
  let v471 : BitVec 32 := Scalar.xori v2 c8_i32_378
  let c1_i32_399 : BitVec 32 := 1#32
  let v489 : BitVec 32 := Scalar.muli v471 c1_i32_399
  let v490 : BitVec 32 := Scalar.addi c0_i32_400 v489
  v490.toNat
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_82 : BitVec 32 := 512#32
  let v130 : BitVec 32 := Scalar.muli v111 c512_i32_82
  let c1_i32_70 : BitVec 32 := 1#32
  let v112 : BitVec 32 := Scalar.andi v2 c1_i32_70
  let c1_i32_71 : BitVec 32 := 1#32
  let v113 : BitVec 32 := Scalar.shrsi v112 c1_i32_71
  let v114 : BitVec 32 := Scalar.xori v112 v113
  let c2_i32_72 : BitVec 32 := 2#32
  let v115 : BitVec 32 := Scalar.shrsi v112 c2_i32_72
  let v116 : BitVec 32 := Scalar.xori v114 v115
  let c3_i32_73 : BitVec 32 := 3#32
  let v117 : BitVec 32 := Scalar.shrsi v112 c3_i32_73
  let v118 : BitVec 32 := Scalar.xori v116 v117
  let c1_i32_74 : BitVec 32 := 1#32
  let v119 : BitVec 32 := Scalar.andi v118 c1_i32_74
  let c256_i32_83 : BitVec 32 := 256#32
  let v131 : BitVec 32 := Scalar.muli v119 c256_i32_83
  let v132 : BitVec 32 := Scalar.addi v130 v131
  let v504 : Index := Scalar.indexCast v132
  let c1408_415 : Index := 1408#32
  ![v504.toNat, 1408]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_82 : BitVec 32 := 512#32
  let v130 : BitVec 32 := Scalar.muli v111 c512_i32_82
  let c1_i32_70 : BitVec 32 := 1#32
  let v112 : BitVec 32 := Scalar.andi v2 c1_i32_70
  let c1_i32_71 : BitVec 32 := 1#32
  let v113 : BitVec 32 := Scalar.shrsi v112 c1_i32_71
  let v114 : BitVec 32 := Scalar.xori v112 v113
  let c2_i32_72 : BitVec 32 := 2#32
  let v115 : BitVec 32 := Scalar.shrsi v112 c2_i32_72
  let v116 : BitVec 32 := Scalar.xori v114 v115
  let c3_i32_73 : BitVec 32 := 3#32
  let v117 : BitVec 32 := Scalar.shrsi v112 c3_i32_73
  let v118 : BitVec 32 := Scalar.xori v116 v117
  let c1_i32_74 : BitVec 32 := 1#32
  let v119 : BitVec 32 := Scalar.andi v118 c1_i32_74
  let c256_i32_83 : BitVec 32 := 256#32
  let v131 : BitVec 32 := Scalar.muli v119 c256_i32_83
  let v132 : BitVec 32 := Scalar.addi v130 v131
  let c1_i32_419 : BitVec 32 := 1#32
  let c8_i32_75 : BitVec 32 := 8#32
  let v120 : BitVec 32 := Scalar.andi v2 c8_i32_75
  let c1_i32_76 : BitVec 32 := 1#32
  let v121 : BitVec 32 := Scalar.shrsi v120 c1_i32_76
  let v122 : BitVec 32 := Scalar.xori v120 v121
  let c2_i32_77 : BitVec 32 := 2#32
  let v123 : BitVec 32 := Scalar.shrsi v120 c2_i32_77
  let v124 : BitVec 32 := Scalar.xori v122 v123
  let c3_i32_78 : BitVec 32 := 3#32
  let v125 : BitVec 32 := Scalar.shrsi v120 c3_i32_78
  let v126 : BitVec 32 := Scalar.xori v124 v125
  let c1_i32_79 : BitVec 32 := 1#32
  let v127 : BitVec 32 := Scalar.andi v126 c1_i32_79
  let v512 : BitVec 32 := Scalar.subi c1_i32_419 v127
  let c128_i32_420 : BitVec 32 := 128#32
  let v513 : BitVec 32 := Scalar.muli v512 c128_i32_420
  let v514 : BitVec 32 := Scalar.addi v132 v513
  let c1408_i32_429 : BitVec 32 := 1408#32
  ![v514.toNat, 1408]
def k0_dev19 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_404 : BitVec 32 := 8#32
  let v497 : BitVec 32 := Scalar.xori v2 c8_i32_404
  let c1_i32_425 : BitVec 32 := 1#32
  let v515 : BitVec 32 := Scalar.muli v497 c1_i32_425
  let v516 : BitVec 32 := Scalar.addi c0_i32_426 v515
  v516.toNat
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32_32 : BitVec 32 := 512#32
  let v50 : BitVec 32 := Scalar.muli v31 c512_i32_32
  let c4_i32_22 : BitVec 32 := 4#32
  let v32 : BitVec 32 := Scalar.andi v2 c4_i32_22
  let c1_i32_23 : BitVec 32 := 1#32
  let v33 : BitVec 32 := Scalar.shrsi v32 c1_i32_23
  let v34 : BitVec 32 := Scalar.xori v32 v33
  let c2_i32_24 : BitVec 32 := 2#32
  let v35 : BitVec 32 := Scalar.shrsi v32 c2_i32_24
  let v36 : BitVec 32 := Scalar.xori v34 v35
  let c3_i32_25 : BitVec 32 := 3#32
  let v37 : BitVec 32 := Scalar.shrsi v32 c3_i32_25
  let v38 : BitVec 32 := Scalar.xori v36 v37
  let c1_i32_26 : BitVec 32 := 1#32
  let v39 : BitVec 32 := Scalar.andi v38 c1_i32_26
  let c256_i32 : BitVec 32 := 256#32
  let v51 : BitVec 32 := Scalar.muli v39 c256_i32
  let v52 : BitVec 32 := Scalar.addi v50 v51
  let c8_i32_27 : BitVec 32 := 8#32
  let v40 : BitVec 32 := Scalar.andi v2 c8_i32_27
  let c1_i32_28 : BitVec 32 := 1#32
  let v41 : BitVec 32 := Scalar.shrsi v40 c1_i32_28
  let v42 : BitVec 32 := Scalar.xori v40 v41
  let c2_i32_29 : BitVec 32 := 2#32
  let v43 : BitVec 32 := Scalar.shrsi v40 c2_i32_29
  let v44 : BitVec 32 := Scalar.xori v42 v43
  let c3_i32_30 : BitVec 32 := 3#32
  let v45 : BitVec 32 := Scalar.shrsi v40 c3_i32_30
  let v46 : BitVec 32 := Scalar.xori v44 v45
  let c1_i32_31 : BitVec 32 := 1#32
  let v47 : BitVec 32 := Scalar.andi v46 c1_i32_31
  let c128_i32 : BitVec 32 := 128#32
  let v53 : BitVec 32 := Scalar.muli v47 c128_i32
  let v54 : BitVec 32 := Scalar.addi v52 v53
  let v529 : Index := Scalar.indexCast v54
  let c0_440 : Index := 0#32
  ![v529.toNat, 0]
def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let c1024_i32 : BitVec 32 := 1024#32
  let v48 : BitVec 32 := Scalar.muli v23 c1024_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32_32 : BitVec 32 := 512#32
  let v50 : BitVec 32 := Scalar.muli v31 c512_i32_32
  let c4_i32_22 : BitVec 32 := 4#32
  let v32 : BitVec 32 := Scalar.andi v2 c4_i32_22
  let c1_i32_23 : BitVec 32 := 1#32
  let v33 : BitVec 32 := Scalar.shrsi v32 c1_i32_23
  let v34 : BitVec 32 := Scalar.xori v32 v33
  let c2_i32_24 : BitVec 32 := 2#32
  let v35 : BitVec 32 := Scalar.shrsi v32 c2_i32_24
  let v36 : BitVec 32 := Scalar.xori v34 v35
  let c3_i32_25 : BitVec 32 := 3#32
  let v37 : BitVec 32 := Scalar.shrsi v32 c3_i32_25
  let v38 : BitVec 32 := Scalar.xori v36 v37
  let c1_i32_26 : BitVec 32 := 1#32
  let v39 : BitVec 32 := Scalar.andi v38 c1_i32_26
  let c256_i32 : BitVec 32 := 256#32
  let v51 : BitVec 32 := Scalar.muli v39 c256_i32
  let v52 : BitVec 32 := Scalar.addi v50 v51
  let c8_i32_27 : BitVec 32 := 8#32
  let v40 : BitVec 32 := Scalar.andi v2 c8_i32_27
  let c1_i32_28 : BitVec 32 := 1#32
  let v41 : BitVec 32 := Scalar.shrsi v40 c1_i32_28
  let v42 : BitVec 32 := Scalar.xori v40 v41
  let c2_i32_29 : BitVec 32 := 2#32
  let v43 : BitVec 32 := Scalar.shrsi v40 c2_i32_29
  let v44 : BitVec 32 := Scalar.xori v42 v43
  let c3_i32_30 : BitVec 32 := 3#32
  let v45 : BitVec 32 := Scalar.shrsi v40 c3_i32_30
  let v46 : BitVec 32 := Scalar.xori v44 v45
  let c1_i32_31 : BitVec 32 := 1#32
  let v47 : BitVec 32 := Scalar.andi v46 c1_i32_31
  let c128_i32 : BitVec 32 := 128#32
  let v53 : BitVec 32 := Scalar.muli v47 c128_i32
  let v54 : BitVec 32 := Scalar.addi v52 v53
  let v533 : BitVec 32 := Scalar.addi v48 v54
  let v536 : Index := Scalar.indexCast v533
  let c0_443 : Index := 0#32
  ![v536.toNat, 0]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let c1024_i32 : BitVec 32 := 1024#32
  let v48 : BitVec 32 := Scalar.muli v23 c1024_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32_32 : BitVec 32 := 512#32
  let v50 : BitVec 32 := Scalar.muli v31 c512_i32_32
  let c4_i32_22 : BitVec 32 := 4#32
  let v32 : BitVec 32 := Scalar.andi v2 c4_i32_22
  let c1_i32_23 : BitVec 32 := 1#32
  let v33 : BitVec 32 := Scalar.shrsi v32 c1_i32_23
  let v34 : BitVec 32 := Scalar.xori v32 v33
  let c2_i32_24 : BitVec 32 := 2#32
  let v35 : BitVec 32 := Scalar.shrsi v32 c2_i32_24
  let v36 : BitVec 32 := Scalar.xori v34 v35
  let c3_i32_25 : BitVec 32 := 3#32
  let v37 : BitVec 32 := Scalar.shrsi v32 c3_i32_25
  let v38 : BitVec 32 := Scalar.xori v36 v37
  let c1_i32_26 : BitVec 32 := 1#32
  let v39 : BitVec 32 := Scalar.andi v38 c1_i32_26
  let c256_i32 : BitVec 32 := 256#32
  let v51 : BitVec 32 := Scalar.muli v39 c256_i32
  let v52 : BitVec 32 := Scalar.addi v50 v51
  let c8_i32_27 : BitVec 32 := 8#32
  let v40 : BitVec 32 := Scalar.andi v2 c8_i32_27
  let c1_i32_28 : BitVec 32 := 1#32
  let v41 : BitVec 32 := Scalar.shrsi v40 c1_i32_28
  let v42 : BitVec 32 := Scalar.xori v40 v41
  let c2_i32_29 : BitVec 32 := 2#32
  let v43 : BitVec 32 := Scalar.shrsi v40 c2_i32_29
  let v44 : BitVec 32 := Scalar.xori v42 v43
  let c3_i32_30 : BitVec 32 := 3#32
  let v45 : BitVec 32 := Scalar.shrsi v40 c3_i32_30
  let v46 : BitVec 32 := Scalar.xori v44 v45
  let c1_i32_31 : BitVec 32 := 1#32
  let v47 : BitVec 32 := Scalar.andi v46 c1_i32_31
  let c128_i32 : BitVec 32 := 128#32
  let v53 : BitVec 32 := Scalar.muli v47 c128_i32
  let v54 : BitVec 32 := Scalar.addi v52 v53
  let v533 : BitVec 32 := Scalar.addi v48 v54
  let c0_i32_451 : BitVec 32 := 0#32
  ![v533.toNat, 0]
def k0_dev20 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_444 : BitVec 32 := 8#32
  let v538 : BitVec 32 := Scalar.xori v2 c8_i32_444
  let c1_i32_449 : BitVec 32 := 1#32
  let v539 : BitVec 32 := Scalar.muli v538 c1_i32_449
  let v540 : BitVec 32 := Scalar.addi c0_i32_450 v539
  v540.toNat
def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_56 : BitVec 32 := 512#32
  let v90 : BitVec 32 := Scalar.muli v71 c512_i32_56
  let c1_i32_44 : BitVec 32 := 1#32
  let v72 : BitVec 32 := Scalar.andi v2 c1_i32_44
  let c1_i32_45 : BitVec 32 := 1#32
  let v73 : BitVec 32 := Scalar.shrsi v72 c1_i32_45
  let v74 : BitVec 32 := Scalar.xori v72 v73
  let c2_i32_46 : BitVec 32 := 2#32
  let v75 : BitVec 32 := Scalar.shrsi v72 c2_i32_46
  let v76 : BitVec 32 := Scalar.xori v74 v75
  let c3_i32_47 : BitVec 32 := 3#32
  let v77 : BitVec 32 := Scalar.shrsi v72 c3_i32_47
  let v78 : BitVec 32 := Scalar.xori v76 v77
  let c1_i32_48 : BitVec 32 := 1#32
  let v79 : BitVec 32 := Scalar.andi v78 c1_i32_48
  let c256_i32_57 : BitVec 32 := 256#32
  let v91 : BitVec 32 := Scalar.muli v79 c256_i32_57
  let v92 : BitVec 32 := Scalar.addi v90 v91
  let c8_i32_49 : BitVec 32 := 8#32
  let v80 : BitVec 32 := Scalar.andi v2 c8_i32_49
  let c1_i32_50 : BitVec 32 := 1#32
  let v81 : BitVec 32 := Scalar.shrsi v80 c1_i32_50
  let v82 : BitVec 32 := Scalar.xori v80 v81
  let c2_i32_51 : BitVec 32 := 2#32
  let v83 : BitVec 32 := Scalar.shrsi v80 c2_i32_51
  let v84 : BitVec 32 := Scalar.xori v82 v83
  let c3_i32_52 : BitVec 32 := 3#32
  let v85 : BitVec 32 := Scalar.shrsi v80 c3_i32_52
  let v86 : BitVec 32 := Scalar.xori v84 v85
  let c1_i32_53 : BitVec 32 := 1#32
  let v87 : BitVec 32 := Scalar.andi v86 c1_i32_53
  let c128_i32_58 : BitVec 32 := 128#32
  let v93 : BitVec 32 := Scalar.muli v87 c128_i32_58
  let v94 : BitVec 32 := Scalar.addi v92 v93
  let v553 : Index := Scalar.indexCast v94
  let c768_463 : Index := 768#32
  ![v553.toNat, 768]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let c1024_i32_54 : BitVec 32 := 1024#32
  let v88 : BitVec 32 := Scalar.muli v63 c1024_i32_54
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_56 : BitVec 32 := 512#32
  let v90 : BitVec 32 := Scalar.muli v71 c512_i32_56
  let c1_i32_44 : BitVec 32 := 1#32
  let v72 : BitVec 32 := Scalar.andi v2 c1_i32_44
  let c1_i32_45 : BitVec 32 := 1#32
  let v73 : BitVec 32 := Scalar.shrsi v72 c1_i32_45
  let v74 : BitVec 32 := Scalar.xori v72 v73
  let c2_i32_46 : BitVec 32 := 2#32
  let v75 : BitVec 32 := Scalar.shrsi v72 c2_i32_46
  let v76 : BitVec 32 := Scalar.xori v74 v75
  let c3_i32_47 : BitVec 32 := 3#32
  let v77 : BitVec 32 := Scalar.shrsi v72 c3_i32_47
  let v78 : BitVec 32 := Scalar.xori v76 v77
  let c1_i32_48 : BitVec 32 := 1#32
  let v79 : BitVec 32 := Scalar.andi v78 c1_i32_48
  let c256_i32_57 : BitVec 32 := 256#32
  let v91 : BitVec 32 := Scalar.muli v79 c256_i32_57
  let v92 : BitVec 32 := Scalar.addi v90 v91
  let c8_i32_49 : BitVec 32 := 8#32
  let v80 : BitVec 32 := Scalar.andi v2 c8_i32_49
  let c1_i32_50 : BitVec 32 := 1#32
  let v81 : BitVec 32 := Scalar.shrsi v80 c1_i32_50
  let v82 : BitVec 32 := Scalar.xori v80 v81
  let c2_i32_51 : BitVec 32 := 2#32
  let v83 : BitVec 32 := Scalar.shrsi v80 c2_i32_51
  let v84 : BitVec 32 := Scalar.xori v82 v83
  let c3_i32_52 : BitVec 32 := 3#32
  let v85 : BitVec 32 := Scalar.shrsi v80 c3_i32_52
  let v86 : BitVec 32 := Scalar.xori v84 v85
  let c1_i32_53 : BitVec 32 := 1#32
  let v87 : BitVec 32 := Scalar.andi v86 c1_i32_53
  let c128_i32_58 : BitVec 32 := 128#32
  let v93 : BitVec 32 := Scalar.muli v87 c128_i32_58
  let v94 : BitVec 32 := Scalar.addi v92 v93
  let v557 : BitVec 32 := Scalar.addi v88 v94
  let v560 : Index := Scalar.indexCast v557
  let c768_467 : Index := 768#32
  ![v560.toNat, 768]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let c1024_i32_54 : BitVec 32 := 1024#32
  let v88 : BitVec 32 := Scalar.muli v63 c1024_i32_54
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_56 : BitVec 32 := 512#32
  let v90 : BitVec 32 := Scalar.muli v71 c512_i32_56
  let c1_i32_44 : BitVec 32 := 1#32
  let v72 : BitVec 32 := Scalar.andi v2 c1_i32_44
  let c1_i32_45 : BitVec 32 := 1#32
  let v73 : BitVec 32 := Scalar.shrsi v72 c1_i32_45
  let v74 : BitVec 32 := Scalar.xori v72 v73
  let c2_i32_46 : BitVec 32 := 2#32
  let v75 : BitVec 32 := Scalar.shrsi v72 c2_i32_46
  let v76 : BitVec 32 := Scalar.xori v74 v75
  let c3_i32_47 : BitVec 32 := 3#32
  let v77 : BitVec 32 := Scalar.shrsi v72 c3_i32_47
  let v78 : BitVec 32 := Scalar.xori v76 v77
  let c1_i32_48 : BitVec 32 := 1#32
  let v79 : BitVec 32 := Scalar.andi v78 c1_i32_48
  let c256_i32_57 : BitVec 32 := 256#32
  let v91 : BitVec 32 := Scalar.muli v79 c256_i32_57
  let v92 : BitVec 32 := Scalar.addi v90 v91
  let c8_i32_49 : BitVec 32 := 8#32
  let v80 : BitVec 32 := Scalar.andi v2 c8_i32_49
  let c1_i32_50 : BitVec 32 := 1#32
  let v81 : BitVec 32 := Scalar.shrsi v80 c1_i32_50
  let v82 : BitVec 32 := Scalar.xori v80 v81
  let c2_i32_51 : BitVec 32 := 2#32
  let v83 : BitVec 32 := Scalar.shrsi v80 c2_i32_51
  let v84 : BitVec 32 := Scalar.xori v82 v83
  let c3_i32_52 : BitVec 32 := 3#32
  let v85 : BitVec 32 := Scalar.shrsi v80 c3_i32_52
  let v86 : BitVec 32 := Scalar.xori v84 v85
  let c1_i32_53 : BitVec 32 := 1#32
  let v87 : BitVec 32 := Scalar.andi v86 c1_i32_53
  let c128_i32_58 : BitVec 32 := 128#32
  let v93 : BitVec 32 := Scalar.muli v87 c128_i32_58
  let v94 : BitVec 32 := Scalar.addi v92 v93
  let v557 : BitVec 32 := Scalar.addi v88 v94
  let c768_i32_475 : BitVec 32 := 768#32
  ![v557.toNat, 768]
def k0_dev21 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_468 : BitVec 32 := 8#32
  let v562 : BitVec 32 := Scalar.xori v2 c8_i32_468
  let c1_i32_473 : BitVec 32 := 1#32
  let v563 : BitVec 32 := Scalar.muli v562 c1_i32_473
  let v564 : BitVec 32 := Scalar.addi c0_i32_474 v563
  v564.toNat
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_82 : BitVec 32 := 512#32
  let v130 : BitVec 32 := Scalar.muli v111 c512_i32_82
  let c1_i32_70 : BitVec 32 := 1#32
  let v112 : BitVec 32 := Scalar.andi v2 c1_i32_70
  let c1_i32_71 : BitVec 32 := 1#32
  let v113 : BitVec 32 := Scalar.shrsi v112 c1_i32_71
  let v114 : BitVec 32 := Scalar.xori v112 v113
  let c2_i32_72 : BitVec 32 := 2#32
  let v115 : BitVec 32 := Scalar.shrsi v112 c2_i32_72
  let v116 : BitVec 32 := Scalar.xori v114 v115
  let c3_i32_73 : BitVec 32 := 3#32
  let v117 : BitVec 32 := Scalar.shrsi v112 c3_i32_73
  let v118 : BitVec 32 := Scalar.xori v116 v117
  let c1_i32_74 : BitVec 32 := 1#32
  let v119 : BitVec 32 := Scalar.andi v118 c1_i32_74
  let c256_i32_83 : BitVec 32 := 256#32
  let v131 : BitVec 32 := Scalar.muli v119 c256_i32_83
  let v132 : BitVec 32 := Scalar.addi v130 v131
  let c8_i32_75 : BitVec 32 := 8#32
  let v120 : BitVec 32 := Scalar.andi v2 c8_i32_75
  let c1_i32_76 : BitVec 32 := 1#32
  let v121 : BitVec 32 := Scalar.shrsi v120 c1_i32_76
  let v122 : BitVec 32 := Scalar.xori v120 v121
  let c2_i32_77 : BitVec 32 := 2#32
  let v123 : BitVec 32 := Scalar.shrsi v120 c2_i32_77
  let v124 : BitVec 32 := Scalar.xori v122 v123
  let c3_i32_78 : BitVec 32 := 3#32
  let v125 : BitVec 32 := Scalar.shrsi v120 c3_i32_78
  let v126 : BitVec 32 := Scalar.xori v124 v125
  let c1_i32_79 : BitVec 32 := 1#32
  let v127 : BitVec 32 := Scalar.andi v126 c1_i32_79
  let c128_i32_84 : BitVec 32 := 128#32
  let v133 : BitVec 32 := Scalar.muli v127 c128_i32_84
  let v134 : BitVec 32 := Scalar.addi v132 v133
  let v577 : Index := Scalar.indexCast v134
  let c1408_487 : Index := 1408#32
  ![v577.toNat, 1408]
def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let c1024_i32_80 : BitVec 32 := 1024#32
  let v128 : BitVec 32 := Scalar.muli v103 c1024_i32_80
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_82 : BitVec 32 := 512#32
  let v130 : BitVec 32 := Scalar.muli v111 c512_i32_82
  let c1_i32_70 : BitVec 32 := 1#32
  let v112 : BitVec 32 := Scalar.andi v2 c1_i32_70
  let c1_i32_71 : BitVec 32 := 1#32
  let v113 : BitVec 32 := Scalar.shrsi v112 c1_i32_71
  let v114 : BitVec 32 := Scalar.xori v112 v113
  let c2_i32_72 : BitVec 32 := 2#32
  let v115 : BitVec 32 := Scalar.shrsi v112 c2_i32_72
  let v116 : BitVec 32 := Scalar.xori v114 v115
  let c3_i32_73 : BitVec 32 := 3#32
  let v117 : BitVec 32 := Scalar.shrsi v112 c3_i32_73
  let v118 : BitVec 32 := Scalar.xori v116 v117
  let c1_i32_74 : BitVec 32 := 1#32
  let v119 : BitVec 32 := Scalar.andi v118 c1_i32_74
  let c256_i32_83 : BitVec 32 := 256#32
  let v131 : BitVec 32 := Scalar.muli v119 c256_i32_83
  let v132 : BitVec 32 := Scalar.addi v130 v131
  let c8_i32_75 : BitVec 32 := 8#32
  let v120 : BitVec 32 := Scalar.andi v2 c8_i32_75
  let c1_i32_76 : BitVec 32 := 1#32
  let v121 : BitVec 32 := Scalar.shrsi v120 c1_i32_76
  let v122 : BitVec 32 := Scalar.xori v120 v121
  let c2_i32_77 : BitVec 32 := 2#32
  let v123 : BitVec 32 := Scalar.shrsi v120 c2_i32_77
  let v124 : BitVec 32 := Scalar.xori v122 v123
  let c3_i32_78 : BitVec 32 := 3#32
  let v125 : BitVec 32 := Scalar.shrsi v120 c3_i32_78
  let v126 : BitVec 32 := Scalar.xori v124 v125
  let c1_i32_79 : BitVec 32 := 1#32
  let v127 : BitVec 32 := Scalar.andi v126 c1_i32_79
  let c128_i32_84 : BitVec 32 := 128#32
  let v133 : BitVec 32 := Scalar.muli v127 c128_i32_84
  let v134 : BitVec 32 := Scalar.addi v132 v133
  let v581 : BitVec 32 := Scalar.addi v128 v134
  let v584 : Index := Scalar.indexCast v581
  let c1408_491 : Index := 1408#32
  ![v584.toNat, 1408]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let c1024_i32_80 : BitVec 32 := 1024#32
  let v128 : BitVec 32 := Scalar.muli v103 c1024_i32_80
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_82 : BitVec 32 := 512#32
  let v130 : BitVec 32 := Scalar.muli v111 c512_i32_82
  let c1_i32_70 : BitVec 32 := 1#32
  let v112 : BitVec 32 := Scalar.andi v2 c1_i32_70
  let c1_i32_71 : BitVec 32 := 1#32
  let v113 : BitVec 32 := Scalar.shrsi v112 c1_i32_71
  let v114 : BitVec 32 := Scalar.xori v112 v113
  let c2_i32_72 : BitVec 32 := 2#32
  let v115 : BitVec 32 := Scalar.shrsi v112 c2_i32_72
  let v116 : BitVec 32 := Scalar.xori v114 v115
  let c3_i32_73 : BitVec 32 := 3#32
  let v117 : BitVec 32 := Scalar.shrsi v112 c3_i32_73
  let v118 : BitVec 32 := Scalar.xori v116 v117
  let c1_i32_74 : BitVec 32 := 1#32
  let v119 : BitVec 32 := Scalar.andi v118 c1_i32_74
  let c256_i32_83 : BitVec 32 := 256#32
  let v131 : BitVec 32 := Scalar.muli v119 c256_i32_83
  let v132 : BitVec 32 := Scalar.addi v130 v131
  let c8_i32_75 : BitVec 32 := 8#32
  let v120 : BitVec 32 := Scalar.andi v2 c8_i32_75
  let c1_i32_76 : BitVec 32 := 1#32
  let v121 : BitVec 32 := Scalar.shrsi v120 c1_i32_76
  let v122 : BitVec 32 := Scalar.xori v120 v121
  let c2_i32_77 : BitVec 32 := 2#32
  let v123 : BitVec 32 := Scalar.shrsi v120 c2_i32_77
  let v124 : BitVec 32 := Scalar.xori v122 v123
  let c3_i32_78 : BitVec 32 := 3#32
  let v125 : BitVec 32 := Scalar.shrsi v120 c3_i32_78
  let v126 : BitVec 32 := Scalar.xori v124 v125
  let c1_i32_79 : BitVec 32 := 1#32
  let v127 : BitVec 32 := Scalar.andi v126 c1_i32_79
  let c128_i32_84 : BitVec 32 := 128#32
  let v133 : BitVec 32 := Scalar.muli v127 c128_i32_84
  let v134 : BitVec 32 := Scalar.addi v132 v133
  let v581 : BitVec 32 := Scalar.addi v128 v134
  let c1408_i32_499 : BitVec 32 := 1408#32
  ![v581.toNat, 1408]
def k0_dev22 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_492 : BitVec 32 := 8#32
  let v586 : BitVec 32 := Scalar.xori v2 c8_i32_492
  let c1_i32_497 : BitVec 32 := 1#32
  let v587 : BitVec 32 := Scalar.muli v586 c1_i32_497
  let v588 : BitVec 32 := Scalar.addi c0_i32_498 v587
  v588.toNat
def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let c1024_i32 : BitVec 32 := 1024#32
  let v48 : BitVec 32 := Scalar.muli v23 c1024_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32_32 : BitVec 32 := 512#32
  let v50 : BitVec 32 := Scalar.muli v31 c512_i32_32
  let c4_i32_22 : BitVec 32 := 4#32
  let v32 : BitVec 32 := Scalar.andi v2 c4_i32_22
  let c1_i32_23 : BitVec 32 := 1#32
  let v33 : BitVec 32 := Scalar.shrsi v32 c1_i32_23
  let v34 : BitVec 32 := Scalar.xori v32 v33
  let c2_i32_24 : BitVec 32 := 2#32
  let v35 : BitVec 32 := Scalar.shrsi v32 c2_i32_24
  let v36 : BitVec 32 := Scalar.xori v34 v35
  let c3_i32_25 : BitVec 32 := 3#32
  let v37 : BitVec 32 := Scalar.shrsi v32 c3_i32_25
  let v38 : BitVec 32 := Scalar.xori v36 v37
  let c1_i32_26 : BitVec 32 := 1#32
  let v39 : BitVec 32 := Scalar.andi v38 c1_i32_26
  let c256_i32 : BitVec 32 := 256#32
  let v51 : BitVec 32 := Scalar.muli v39 c256_i32
  let v52 : BitVec 32 := Scalar.addi v50 v51
  let v602 : BitVec 32 := Scalar.addi v48 v52
  let c0_i32_517 : BitVec 32 := 0#32
  ![v602.toNat, 0]
def k0_dev23 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_510 : BitVec 32 := 4#32
  let v603 : BitVec 32 := Scalar.xori v2 c4_i32_510
  let c1_i32_515 : BitVec 32 := 1#32
  let v604 : BitVec 32 := Scalar.muli v603 c1_i32_515
  let v605 : BitVec 32 := Scalar.addi c0_i32_516 v604
  v605.toNat
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let c1024_i32_54 : BitVec 32 := 1024#32
  let v88 : BitVec 32 := Scalar.muli v63 c1024_i32_54
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_56 : BitVec 32 := 512#32
  let v90 : BitVec 32 := Scalar.muli v71 c512_i32_56
  let c1_i32_44 : BitVec 32 := 1#32
  let v72 : BitVec 32 := Scalar.andi v2 c1_i32_44
  let c1_i32_45 : BitVec 32 := 1#32
  let v73 : BitVec 32 := Scalar.shrsi v72 c1_i32_45
  let v74 : BitVec 32 := Scalar.xori v72 v73
  let c2_i32_46 : BitVec 32 := 2#32
  let v75 : BitVec 32 := Scalar.shrsi v72 c2_i32_46
  let v76 : BitVec 32 := Scalar.xori v74 v75
  let c3_i32_47 : BitVec 32 := 3#32
  let v77 : BitVec 32 := Scalar.shrsi v72 c3_i32_47
  let v78 : BitVec 32 := Scalar.xori v76 v77
  let c1_i32_48 : BitVec 32 := 1#32
  let v79 : BitVec 32 := Scalar.andi v78 c1_i32_48
  let c256_i32_57 : BitVec 32 := 256#32
  let v91 : BitVec 32 := Scalar.muli v79 c256_i32_57
  let v92 : BitVec 32 := Scalar.addi v90 v91
  let v619 : BitVec 32 := Scalar.addi v88 v92
  let c768_i32_535 : BitVec 32 := 768#32
  ![v619.toNat, 768]
def k0_dev24 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_528 : BitVec 32 := 1#32
  let v620 : BitVec 32 := Scalar.xori v2 c1_i32_528
  let c1_i32_533 : BitVec 32 := 1#32
  let v621 : BitVec 32 := Scalar.muli v620 c1_i32_533
  let v622 : BitVec 32 := Scalar.addi c0_i32_534 v621
  v622.toNat
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let c1024_i32_80 : BitVec 32 := 1024#32
  let v128 : BitVec 32 := Scalar.muli v103 c1024_i32_80
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_82 : BitVec 32 := 512#32
  let v130 : BitVec 32 := Scalar.muli v111 c512_i32_82
  let c1_i32_70 : BitVec 32 := 1#32
  let v112 : BitVec 32 := Scalar.andi v2 c1_i32_70
  let c1_i32_71 : BitVec 32 := 1#32
  let v113 : BitVec 32 := Scalar.shrsi v112 c1_i32_71
  let v114 : BitVec 32 := Scalar.xori v112 v113
  let c2_i32_72 : BitVec 32 := 2#32
  let v115 : BitVec 32 := Scalar.shrsi v112 c2_i32_72
  let v116 : BitVec 32 := Scalar.xori v114 v115
  let c3_i32_73 : BitVec 32 := 3#32
  let v117 : BitVec 32 := Scalar.shrsi v112 c3_i32_73
  let v118 : BitVec 32 := Scalar.xori v116 v117
  let c1_i32_74 : BitVec 32 := 1#32
  let v119 : BitVec 32 := Scalar.andi v118 c1_i32_74
  let c256_i32_83 : BitVec 32 := 256#32
  let v131 : BitVec 32 := Scalar.muli v119 c256_i32_83
  let v132 : BitVec 32 := Scalar.addi v130 v131
  let v636 : BitVec 32 := Scalar.addi v128 v132
  let c1408_i32_553 : BitVec 32 := 1408#32
  ![v636.toNat, 1408]
def k0_dev25 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_546 : BitVec 32 := 3#32
  let v637 : BitVec 32 := Scalar.xori v2 c3_i32_546
  let c1_i32_551 : BitVec 32 := 1#32
  let v638 : BitVec 32 := Scalar.muli v637 c1_i32_551
  let v639 : BitVec 32 := Scalar.addi c0_i32_552 v638
  v639.toNat
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let c1024_i32 : BitVec 32 := 1024#32
  let v48 : BitVec 32 := Scalar.muli v23 c1024_i32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let c512_i32 : BitVec 32 := 512#32
  let v49 : BitVec 32 := Scalar.muli v31 c512_i32
  let v653 : BitVec 32 := Scalar.addi v48 v49
  let c0_i32_571 : BitVec 32 := 0#32
  ![v653.toNat, 0]
def k0_dev26 (d0 : Dev nD) : Nat :=
  let c0_i32_570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_564 : BitVec 32 := 3#32
  let v654 : BitVec 32 := Scalar.xori v2 c3_i32_564
  let c1_i32_569 : BitVec 32 := 1#32
  let v655 : BitVec 32 := Scalar.muli v654 c1_i32_569
  let v656 : BitVec 32 := Scalar.addi c0_i32_570 v655
  v656.toNat
def k0_dev27 (d0 : Dev nD) : Nat :=
  let c0_i32_579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_573 : BitVec 32 := 1#32
  let v663 : BitVec 32 := Scalar.xori v2 c1_i32_573
  let c1_i32_578 : BitVec 32 := 1#32
  let v664 : BitVec 32 := Scalar.muli v663 c1_i32_578
  let v665 : BitVec 32 := Scalar.addi c0_i32_579 v664
  v665.toNat
def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let c1024_i32_54 : BitVec 32 := 1024#32
  let v88 : BitVec 32 := Scalar.muli v63 c1024_i32_54
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let c512_i32_55 : BitVec 32 := 512#32
  let v89 : BitVec 32 := Scalar.muli v71 c512_i32_55
  let v679 : BitVec 32 := Scalar.addi v88 v89
  let c768_i32_598 : BitVec 32 := 768#32
  ![v679.toNat, 768]
def k0_dev28 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_591 : BitVec 32 := 4#32
  let v680 : BitVec 32 := Scalar.xori v2 c4_i32_591
  let c1_i32_596 : BitVec 32 := 1#32
  let v681 : BitVec 32 := Scalar.muli v680 c1_i32_596
  let v682 : BitVec 32 := Scalar.addi c0_i32_597 v681
  v682.toNat
def k0_dev29 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_600 : BitVec 32 := 3#32
  let v689 : BitVec 32 := Scalar.xori v2 c3_i32_600
  let c1_i32_605 : BitVec 32 := 1#32
  let v690 : BitVec 32 := Scalar.muli v689 c1_i32_605
  let v691 : BitVec 32 := Scalar.addi c0_i32_606 v690
  v691.toNat
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let c1024_i32_80 : BitVec 32 := 1024#32
  let v128 : BitVec 32 := Scalar.muli v103 c1024_i32_80
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let c512_i32_81 : BitVec 32 := 512#32
  let v129 : BitVec 32 := Scalar.muli v111 c512_i32_81
  let v705 : BitVec 32 := Scalar.addi v128 v129
  let c1408_i32_625 : BitVec 32 := 1408#32
  ![v705.toNat, 1408]
def k0_dev30 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_618 : BitVec 32 := 1#32
  let v706 : BitVec 32 := Scalar.xori v2 c1_i32_618
  let c1_i32_623 : BitVec 32 := 1#32
  let v707 : BitVec 32 := Scalar.muli v706 c1_i32_623
  let v708 : BitVec 32 := Scalar.addi c0_i32_624 v707
  v708.toNat
def k0_dev31 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_627 : BitVec 32 := 4#32
  let v715 : BitVec 32 := Scalar.xori v2 c4_i32_627
  let c1_i32_632 : BitVec 32 := 1#32
  let v716 : BitVec 32 := Scalar.muli v715 c1_i32_632
  let v717 : BitVec 32 := Scalar.addi c0_i32_633 v716
  v717.toNat
def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let c1024_i32 : BitVec 32 := 1024#32
  let v48 : BitVec 32 := Scalar.muli v23 c1024_i32
  let c1_i32_645 : BitVec 32 := 1#32
  let c1_i32_17 : BitVec 32 := 1#32
  let v24 : BitVec 32 := Scalar.andi v2 c1_i32_17
  let c1_i32_18 : BitVec 32 := 1#32
  let v25 : BitVec 32 := Scalar.shrsi v24 c1_i32_18
  let v26 : BitVec 32 := Scalar.xori v24 v25
  let c2_i32_19 : BitVec 32 := 2#32
  let v27 : BitVec 32 := Scalar.shrsi v24 c2_i32_19
  let v28 : BitVec 32 := Scalar.xori v26 v27
  let c3_i32_20 : BitVec 32 := 3#32
  let v29 : BitVec 32 := Scalar.shrsi v24 c3_i32_20
  let v30 : BitVec 32 := Scalar.xori v28 v29
  let c1_i32_21 : BitVec 32 := 1#32
  let v31 : BitVec 32 := Scalar.andi v30 c1_i32_21
  let v731 : BitVec 32 := Scalar.subi c1_i32_645 v31
  let c512_i32_646 : BitVec 32 := 512#32
  let v732 : BitVec 32 := Scalar.muli v731 c512_i32_646
  let v733 : BitVec 32 := Scalar.addi v48 v732
  let c0_i32_652 : BitVec 32 := 0#32
  ![v733.toNat, 0]
def k0_dev32 (d0 : Dev nD) : Nat :=
  let c0_i32_651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_647 : BitVec 32 := 1#32
  let v734 : BitVec 32 := Scalar.xori v2 c1_i32_647
  let c1_i32_650 : BitVec 32 := 1#32
  let v735 : BitVec 32 := Scalar.muli v734 c1_i32_650
  let v736 : BitVec 32 := Scalar.addi c0_i32_651 v735
  v736.toNat
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let c1024_i32_54 : BitVec 32 := 1024#32
  let v88 : BitVec 32 := Scalar.muli v63 c1024_i32_54
  let c1_i32_663 : BitVec 32 := 1#32
  let c4_i32_39 : BitVec 32 := 4#32
  let v64 : BitVec 32 := Scalar.andi v2 c4_i32_39
  let c1_i32_40 : BitVec 32 := 1#32
  let v65 : BitVec 32 := Scalar.shrsi v64 c1_i32_40
  let v66 : BitVec 32 := Scalar.xori v64 v65
  let c2_i32_41 : BitVec 32 := 2#32
  let v67 : BitVec 32 := Scalar.shrsi v64 c2_i32_41
  let v68 : BitVec 32 := Scalar.xori v66 v67
  let c3_i32_42 : BitVec 32 := 3#32
  let v69 : BitVec 32 := Scalar.shrsi v64 c3_i32_42
  let v70 : BitVec 32 := Scalar.xori v68 v69
  let c1_i32_43 : BitVec 32 := 1#32
  let v71 : BitVec 32 := Scalar.andi v70 c1_i32_43
  let v750 : BitVec 32 := Scalar.subi c1_i32_663 v71
  let c512_i32_664 : BitVec 32 := 512#32
  let v751 : BitVec 32 := Scalar.muli v750 c512_i32_664
  let v752 : BitVec 32 := Scalar.addi v88 v751
  let c768_i32_670 : BitVec 32 := 768#32
  ![v752.toNat, 768]
def k0_dev33 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_665 : BitVec 32 := 3#32
  let v753 : BitVec 32 := Scalar.xori v2 c3_i32_665
  let c1_i32_668 : BitVec 32 := 1#32
  let v754 : BitVec 32 := Scalar.muli v753 c1_i32_668
  let v755 : BitVec 32 := Scalar.addi c0_i32_669 v754
  v755.toNat
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let c1024_i32_80 : BitVec 32 := 1024#32
  let v128 : BitVec 32 := Scalar.muli v103 c1024_i32_80
  let c1_i32_681 : BitVec 32 := 1#32
  let c3_i32_65 : BitVec 32 := 3#32
  let v104 : BitVec 32 := Scalar.andi v2 c3_i32_65
  let c1_i32_66 : BitVec 32 := 1#32
  let v105 : BitVec 32 := Scalar.shrsi v104 c1_i32_66
  let v106 : BitVec 32 := Scalar.xori v104 v105
  let c2_i32_67 : BitVec 32 := 2#32
  let v107 : BitVec 32 := Scalar.shrsi v104 c2_i32_67
  let v108 : BitVec 32 := Scalar.xori v106 v107
  let c3_i32_68 : BitVec 32 := 3#32
  let v109 : BitVec 32 := Scalar.shrsi v104 c3_i32_68
  let v110 : BitVec 32 := Scalar.xori v108 v109
  let c1_i32_69 : BitVec 32 := 1#32
  let v111 : BitVec 32 := Scalar.andi v110 c1_i32_69
  let v769 : BitVec 32 := Scalar.subi c1_i32_681 v111
  let c512_i32_682 : BitVec 32 := 512#32
  let v770 : BitVec 32 := Scalar.muli v769 c512_i32_682
  let v771 : BitVec 32 := Scalar.addi v128 v770
  let c1408_i32_688 : BitVec 32 := 1408#32
  ![v771.toNat, 1408]
def k0_dev34 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_683 : BitVec 32 := 4#32
  let v772 : BitVec 32 := Scalar.xori v2 c4_i32_683
  let c1_i32_686 : BitVec 32 := 1#32
  let v773 : BitVec 32 := Scalar.muli v772 c1_i32_686
  let v774 : BitVec 32 := Scalar.addi c0_i32_687 v773
  v774.toNat
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_13 : BitVec 32 := 3#32
  let v16 : BitVec 32 := Scalar.andi v2 c3_i32_13
  let c1_i32_14 : BitVec 32 := 1#32
  let v17 : BitVec 32 := Scalar.shrsi v16 c1_i32_14
  let v18 : BitVec 32 := Scalar.xori v16 v17
  let c2_i32 : BitVec 32 := 2#32
  let v19 : BitVec 32 := Scalar.shrsi v16 c2_i32
  let v20 : BitVec 32 := Scalar.xori v18 v19
  let c3_i32_15 : BitVec 32 := 3#32
  let v21 : BitVec 32 := Scalar.shrsi v16 c3_i32_15
  let v22 : BitVec 32 := Scalar.xori v20 v21
  let c1_i32_16 : BitVec 32 := 1#32
  let v23 : BitVec 32 := Scalar.andi v22 c1_i32_16
  let c1024_i32 : BitVec 32 := 1024#32
  let v48 : BitVec 32 := Scalar.muli v23 c1024_i32
  let c0_i32_696 : BitVec 32 := 0#32
  ![v48.toNat, 0]
def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_34 : BitVec 32 := 2#32
  let v56 : BitVec 32 := Scalar.andi v2 c2_i32_34
  let c1_i32_35 : BitVec 32 := 1#32
  let v57 : BitVec 32 := Scalar.shrsi v56 c1_i32_35
  let v58 : BitVec 32 := Scalar.xori v56 v57
  let c2_i32_36 : BitVec 32 := 2#32
  let v59 : BitVec 32 := Scalar.shrsi v56 c2_i32_36
  let v60 : BitVec 32 := Scalar.xori v58 v59
  let c3_i32_37 : BitVec 32 := 3#32
  let v61 : BitVec 32 := Scalar.shrsi v56 c3_i32_37
  let v62 : BitVec 32 := Scalar.xori v60 v61
  let c1_i32_38 : BitVec 32 := 1#32
  let v63 : BitVec 32 := Scalar.andi v62 c1_i32_38
  let c1024_i32_54 : BitVec 32 := 1024#32
  let v88 : BitVec 32 := Scalar.muli v63 c1024_i32_54
  let c768_i32_712 : BitVec 32 := 768#32
  ![v88.toNat, 768]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v96 : BitVec 32 := Scalar.andi v2 c4_i32_60
  let c1_i32_61 : BitVec 32 := 1#32
  let v97 : BitVec 32 := Scalar.shrsi v96 c1_i32_61
  let v98 : BitVec 32 := Scalar.xori v96 v97
  let c2_i32_62 : BitVec 32 := 2#32
  let v99 : BitVec 32 := Scalar.shrsi v96 c2_i32_62
  let v100 : BitVec 32 := Scalar.xori v98 v99
  let c3_i32_63 : BitVec 32 := 3#32
  let v101 : BitVec 32 := Scalar.shrsi v96 c3_i32_63
  let v102 : BitVec 32 := Scalar.xori v100 v101
  let c1_i32_64 : BitVec 32 := 1#32
  let v103 : BitVec 32 := Scalar.andi v102 c1_i32_64
  let c1024_i32_80 : BitVec 32 := 1024#32
  let v128 : BitVec 32 := Scalar.muli v103 c1024_i32_80
  let c1408_i32_728 : BitVec 32 := 1408#32
  ![v128.toNat, 1408]
abbrev stage0_0 : Fin 1 → Memref sig .tc .vmem S2048x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Region.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

/-!
# Boxes of a two-dimensional buffer, and holding one

Every array this kernel touches is a matrix with 2048 columns, and every load, store and transfer goes through a
rectangle of consecutive rows and columns of it. `box r n k w` is the rectangle of rows `[r, r + n)` and columns
`[k, k + w)`. `Held m c q r n k w a g` says that device `c` holds the share `q` of that box of the matrix `m` and that
its element in row `r + i` and column `j` is `g (a + i) j`: the first argument of `g` is a row of the GLOBAL matrix, so
that a box carries the same `g` whichever buffer it lies in. `Room m c r n k w` is the box at any contents.
-/

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds library's copy for the kernel's own cells: the duties of a cell are named by numbers below four. -/
abbrev UB : Type := URounds (GSem nD τ sig) (Fin 4)
/-- The pipeline library's copy and the kernel's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

/-- A matrix of `R` rows and 2048 columns. -/
abbrev Mat (R : ℕ) : Shape := ⟨2, ![R, 2048]⟩

/-- Rows `[r, r + n)`, columns `[k, k + w)`. -/
def box {R : ℕ} (r n k w : ℕ) : Finset (Mat R).Idx :=
  Finset.univ.filter fun j => (r ≤ (j 0).val ∧ (j 0).val < r + n) ∧ (k ≤ (j 1).val ∧ (j 1).val < k + w)

theorem mem_box {R r n k w : ℕ} {j : (Mat R).Idx} :
    j ∈ box r n k w ↔ (r ≤ (j 0).val ∧ (j 0).val < r + n) ∧ (k ≤ (j 1).val ∧ (j 1).val < k + w) := by
  unfold box; rw [Finset.mem_filter]; exact ⟨fun h => h.2, fun h => ⟨Finset.mem_univ _, h⟩⟩

theorem eq_of_entails {P Q : sProp 𝕄} (h : P ⊢ Q) (h' : Q ⊢ P) : P = Q := BI.equiv_iff.mp ⟨h, h'⟩

variable {R : ℕ} (m : Memref sig .tc .vmem (Mat R) .bf16) (c : Dev nD)

def Held (q : PosShare TreeShare) (r n k w a : ℕ) (g : ℕ → ℕ → Elt F .bf16) : sProp 𝕄 :=
  iprop(∃ B : Buf (Elt F) (m.view.loc (c : Thread nD τ)),
    ⌜∀ j ∈ box r n k w, m.view.read (Elt F) B j = g (a + ((j 0).val - r)) (j 1).val⌝
      ∗ (m.view.loc (c : Thread nD τ) ↦[m.view.setOn (box r n k w)]{q} B))

def Room (r n k w : ℕ) : sProp 𝕄 :=
  iprop(∃ B : Buf (Elt F) (m.view.loc (c : Thread nD τ)),
    m.view.loc (c : Thread nD τ) ↦[m.view.setOn (box r n k w)]{fullShare} B)

instance Held_storable (q : PosShare TreeShare) (r n k w a : ℕ) (g : ℕ → ℕ → Elt F .bf16) :
    BI.Storable (upEmb : UEmb _ 𝕄) (Held m c q r n k w a g) := by unfold Held; infer_instance
instance Room_storable (r n k w : ℕ) : BI.Storable (upEmb : UEmb _ 𝕄) (Room (F := F) m c r n k w) := by
  unfold Room; infer_instance

theorem Held.room {r n k w a : ℕ} {g : ℕ → ℕ → Elt F .bf16} : Held m c fullShare r n k w a g ⊢ Room m c r n k w := by
  unfold Held Room; iintro ⟨%B, -, H⟩; iexists B; iexact H

theorem setOn_box_disjoint {r n k w r' n' k' w' : ℕ}
    (h : r + n ≤ r' ∨ r' + n' ≤ r ∨ k + w ≤ k' ∨ k' + w' ≤ k) :
    Disjoint (m.view.setOn (box r n k w)) (m.view.setOn (box r' n' k' w')) := by
  unfold View.setOn
  rw [Finset.disjoint_map, Finset.disjoint_left]
  intro j hj hj'
  rw [mem_box] at hj hj'
  omega

theorem setOn_box_rows (r n₁ n₂ k w : ℕ) :
    m.view.setOn (box r (n₁ + n₂) k w) = m.view.setOn (box r n₁ k w) ∪ m.view.setOn (box (r + n₁) n₂ k w) := by
  unfold View.setOn
  rw [← Finset.map_union]
  congr 1; ext j; rw [Finset.mem_union, mem_box, mem_box, mem_box]; omega

theorem setOn_box_cols (r n k w₁ w₂ : ℕ) :
    m.view.setOn (box r n k (w₁ + w₂)) = m.view.setOn (box r n k w₁) ∪ m.view.setOn (box r n (k + w₁) w₂) := by
  unfold View.setOn
  rw [← Finset.map_union]
  congr 1; ext j; rw [Finset.mem_union, mem_box, mem_box, mem_box]; omega

theorem read_piecewise {I J : Finset (Mat R).Idx} (B₁ B₂ : Buf (Elt F) (m.view.loc (c : Thread nD τ))) (j : (Mat R).Idx)
    (hd : Disjoint (m.view.setOn I) (m.view.setOn J)) :
    (j ∈ J → m.view.read (Elt F) ((m.view.setOn J).piecewise B₂ B₁) j = m.view.read (Elt F) B₂ j)
      ∧ (j ∈ I → m.view.read (Elt F) ((m.view.setOn J).piecewise B₂ B₁) j = m.view.read (Elt F) B₁ j) := by
  refine ⟨fun h => View.read_congr_at j ?_, fun h => View.read_congr_at j ?_⟩
  · exact Finset.piecewise_eq_of_mem _ _ _ (m.view.mem_setOn.mpr h)
  · exact Finset.piecewise_eq_of_notMem _ _ _ (Finset.disjoint_left.mp hd (m.view.mem_setOn.mpr h))

/-- Two bands of rows, one above the other, are the band they make. -/
theorem Held_rows (q : PosShare TreeShare) (r n₁ n₂ k w a : ℕ) (g : ℕ → ℕ → Elt F .bf16) :
    Held m c q r (n₁ + n₂) k w a g = iprop(Held m c q r n₁ k w a g ∗ Held m c q (r + n₁) n₂ k w (a + n₁) g) := by
  have hd : Disjoint (m.view.setOn (box r n₁ k w)) (m.view.setOn (box (r + n₁) n₂ k w)) :=
    setOn_box_disjoint m (Or.inl le_rfl)
  unfold Held
  rw [setOn_box_rows]
  refine eq_of_entails ?_ ?_
  · iintro ⟨%B, %hB, H⟩
    ihave H := (pointsTo_union hd).1 $$ H
    icases H with ⟨H₁, H₂⟩
    isplitl [H₁]
    · iexists B; isplitr
      · ipureintro; intro j hj; exact hB j (by rw [mem_box] at hj ⊢; omega)
      · iexact H₁
    · iexists B; isplitr
      · ipureintro; intro j hj
        rw [hB j (by rw [mem_box] at hj ⊢; omega)]
        rw [mem_box] at hj; congr 1; omega
      · iexact H₂
  · iintro ⟨⟨%B₁, %h₁, H₁⟩, ⟨%B₂, %h₂, H₂⟩⟩
    iexists ((m.view.setOn (box (r + n₁) n₂ k w)).piecewise B₂ B₁)
    isplitr
    · ipureintro; intro j hj
      by_cases h : (j 0).val < r + n₁
      · have hm : j ∈ box r n₁ k w := by rw [mem_box] at hj ⊢; omega
        rw [(read_piecewise m c B₁ B₂ j hd).2 hm, h₁ j hm]
      · have hm : j ∈ box (r + n₁) n₂ k w := by rw [mem_box] at hj ⊢; omega
        rw [(read_piecewise m c B₁ B₂ j hd).1 hm, h₂ j hm]
        congr 1; omega
    · iapply (pointsTo_join hd); isplitl [H₁] <;> iassumption

theorem Room_rows (r n₁ n₂ k w : ℕ) :
    Room (F := F) m c r (n₁ + n₂) k w = iprop(Room m c r n₁ k w ∗ Room m c (r + n₁) n₂ k w) := by
  have hd : Disjoint (m.view.setOn (box r n₁ k w)) (m.view.setOn (box (r + n₁) n₂ k w)) :=
    setOn_box_disjoint m (Or.inl le_rfl)
  unfold Room
  rw [setOn_box_rows]
  refine eq_of_entails ?_ ?_
  · iintro ⟨%B, H⟩
    ihave H := (pointsTo_union hd).1 $$ H
    icases H with ⟨H₁, H₂⟩
    isplitl [H₁]
    · iexists B; iexact H₁
    · iexists B; iexact H₂
  · iintro ⟨⟨%B₁, H₁⟩, ⟨%B₂, H₂⟩⟩
    iexists ((m.view.setOn (box (r + n₁) n₂ k w)).piecewise B₂ B₁)
    iapply (pointsTo_join hd); isplitl [H₁] <;> iassumption

theorem Room_cols (r n k w₁ w₂ : ℕ) :
    Room (F := F) m c r n k (w₁ + w₂) = iprop(Room m c r n k w₁ ∗ Room m c r n (k + w₁) w₂) := by
  have hd : Disjoint (m.view.setOn (box r n k w₁)) (m.view.setOn (box r n (k + w₁) w₂)) :=
    setOn_box_disjoint m (Or.inr (Or.inr (Or.inl le_rfl)))
  unfold Room
  rw [setOn_box_cols]
  refine eq_of_entails ?_ ?_
  · iintro ⟨%B, H⟩
    ihave H := (pointsTo_union hd).1 $$ H
    icases H with ⟨H₁, H₂⟩
    isplitl [H₁]
    · iexists B; iexact H₁
    · iexists B; iexact H₂
  · iintro ⟨⟨%B₁, H₁⟩, ⟨%B₂, H₂⟩⟩
    iexists ((m.view.setOn (box r n (k + w₁) w₂)).piecewise B₂ B₁)
    iapply (pointsTo_join hd); isplitl [H₁] <;> iassumption

/-- A share and the two shares it splits into. -/
theorem Held_share {q q₁ q₂ : PosShare TreeShare} (hq : q ∈ PCS.op q₁ q₂) (r n k w a : ℕ) (g : ℕ → ℕ → Elt F .bf16) :
    Held m c q r n k w a g = iprop(Held m c q₁ r n k w a g ∗ Held m c q₂ r n k w a g) := by
  unfold Held
  refine eq_of_entails ?_ ?_
  · iintro ⟨%B, %hB, H⟩
    ihave H := (pointsTo_share hq).1 $$ H
    icases H with ⟨H₁, H₂⟩
    isplitl [H₁]
    · iexists B; isplitr; · (ipureintro; exact hB)
      iexact H₁
    · iexists B; isplitr; · (ipureintro; exact hB)
      iexact H₂
  · iintro ⟨⟨%B₁, %h₁, H₁⟩, ⟨%B₂, %h₂, H₂⟩⟩
    iexists B₁
    isplitr; · (ipureintro; exact h₁)
    have he : ∀ i ∈ m.view.setOn (box r n k w), B₂ i = B₁ i := by
      intro i hi
      obtain ⟨j, hj, rfl⟩ := Finset.mem_map.mp hi
      have h := (h₂ j hj).trans (h₁ j hj).symm
      rw [View.read_apply, View.read_apply] at h
      exact (cast_inj _).mp h
    ihave H₂' := (Entails.of_eq (pointsTo_congr he)) $$ H₂
    iapply (pointsTo_share hq).2
    isplitl [H₁] <;> iassumption

theorem Held_congr {q : PosShare TreeShare} {r n k w a : ℕ} {g g' : ℕ → ℕ → Elt F .bf16}
    (h : ∀ i j, i < n → k ≤ j → j < k + w → g (a + i) j = g' (a + i) j) :
    Held m c q r n k w a g ⊢ Held m c q r n k w a g' := by
  unfold Held
  iintro ⟨%B, %hB, H⟩
  iexists B
  isplitr
  · ipureintro; intro j hj
    rw [hB j hj]
    rw [mem_box] at hj
    exact h _ _ (by omega) hj.2.1 hj.2.2
  · iexact H

/-! ## The rectangles the program names -/

theorem rect_box {off size : Fin 2 → ℕ} (inb : ∀ a, off a + size a ≤ (Mat R).size a) :
    (Rect.unit (s := Mat R) off size inb).set = box (off 0) (size 0) (off 1) (size 1) := by
  ext j
  rw [Rect.mem_set_unit, mem_box]
  exact ⟨fun h => ⟨h 0, h 1⟩, fun h a => by fin_cases a <;> [exact h.1; exact h.2]⟩

theorem slice_set {off size : Fin 2 → ℕ} (inb : ∀ a, off a + size a ≤ (Mat R).size a) :
    (m.view.slice (Rect.unit (s := Mat R) off size inb)).set = m.view.setOn (box (off 0) (size 0) (off 1) (size 1)) := by
  rw [View.set_slice, rect_box]; rfl

theorem rect_val {off size : Fin 2 → ℕ} (inb : ∀ a, off a + size a ≤ (Mat R).size a)
    (j : (Rect.unit (s := Mat R) off size inb).shape.Idx) (a : Fin 2) :
    ((Rect.unit (s := Mat R) off size inb).emb j a).val = off a + (j a).val := by
  rw [Rect.emb_apply]; exact congrArg (off a + ·) (Nat.one_mul _)

theorem rect_mem {off size : Fin 2 → ℕ} (inb : ∀ a, off a + size a ≤ (Mat R).size a)
    (j : (Rect.unit (s := Mat R) off size inb).shape.Idx) :
    (Rect.unit (s := Mat R) off size inb).emb j ∈ (box (off 0) (size 0) (off 1) (size 1) : Finset (Mat R).Idx) := by
  rw [mem_box, rect_val, rect_val]
  have h0 : (j 0).val < size 0 := (j 0).isLt
  have h1 : (j 1).val < size 1 := (j 1).isLt
  omega

theorem setOn_box_subset {r n k w r' n' k' w' : ℕ} (h : r ≤ r' ∧ r' + n' ≤ r + n ∧ k ≤ k' ∧ k' + w' ≤ k + w) :
    m.view.setOn (box r' n' k' w') ⊆ m.view.setOn (box r n k w) := by
  refine Finset.map_subset_map.mpr fun j hj => ?_
  rw [mem_box] at hj ⊢; omega

/-! ## Loads and stores -/

section Rules

variable {off size : Fin 2 → ℕ} {inb : ∀ a, off a + size a ≤ (Mat R).size a}

/-- A load of a rectangle inside a held box reads the box's contents there. -/
theorem wp_ld {α : Type} {Q : α → sProp 𝕄} {q : PosShare TreeShare} {r n k w a : ℕ} {g : ℕ → ℕ → Elt F .bf16} {ro ko : ℕ}
    {hl : m.view.LoadsAt (Rect.unit (s := Mat R) off size inb).toLoadRect}
    {K : ((Rect.unit (s := Mat R) off size inb).toLoadRect.shape.Idx → Elt F .bf16) → Prog (TpuEff nD τ sig (Elt F) Λ₀ .tc) α}
    (ho : off = ![ro, ko]) (h : r ≤ ro ∧ ro + size 0 ≤ r + n ∧ k ≤ ko ∧ ko + size 1 ≤ k + w) :
    Held m c q r n k w a g
      ⊢ iprop((Held m c q r n k w a g
            -∗ wp frame (wpE (defs₀ (F := F)) 𝒱₀ (c : Thread nD τ) none) Set.univ
                (K fun j => g (a + (ro - r) + (j 0).val) (ko + (j 1).val)) Q)
          -∗ wp frame (wpE (defs₀ (F := F)) 𝒱₀ (c : Thread nD τ) none) Set.univ
              (.op (.load m (Rect.unit (s := Mat R) off size inb).toLoadRect hl) K) Q) := by
  subst ho
  have hS : (m.access (Rect.unit (s := Mat R) ![ro, ko] size inb)).set ⊆ m.view.setOn (box r n k w) := by
    show (m.view.slice _).set ⊆ _
    rw [slice_set]; exact setOn_box_subset m h
  unfold Held
  iintro ⟨%B, %hB, H⟩ Hk
  iapply (wp_load_rect 𝒱₀ (c : Thread nD τ) none Set.univ (m := m) (r := Rect.unit (s := Mat R) ![ro, ko] size inb)
    (S := m.view.setOn (box r n k w)) hS) $$ H
  iintro H
  have he : (m.access (Rect.unit (s := Mat R) ![ro, ko] size inb)).read (Elt F) B
      = fun j : (Rect.unit (s := Mat R) ![ro, ko] size inb).shape.Idx => g (a + (ro - r) + (j 0).val) (ko + (j 1).val) := by
    funext j
    have hm := rect_mem inb j
    have := hB ((Rect.unit (s := Mat R) ![ro, ko] size inb).emb j) (by
      rw [mem_box] at hm ⊢
      simp only [Matrix.cons_val_zero, Matrix.cons_val_one] at hm
      omega)
    rw [rect_val, rect_val] at this
    refine Eq.trans this ?_
    simp only [Matrix.cons_val_zero, Matrix.cons_val_one]
    congr 1; omega
  rw [he]
  iapply Hk
  iexists B; isplitr; · (ipureintro; exact hB)
  iexact H

/-- A load of a rectangle inside a box at any contents reads something. -/
theorem wp_ld_any {α : Type} {Q : α → sProp 𝕄} {r n k w : ℕ} {ro ko : ℕ}
    {hl : m.view.LoadsAt (Rect.unit (s := Mat R) off size inb).toLoadRect}
    {K : ((Rect.unit (s := Mat R) off size inb).toLoadRect.shape.Idx → Elt F .bf16) → Prog (TpuEff nD τ sig (Elt F) Λ₀ .tc) α}
    (ho : off = ![ro, ko]) (h : r ≤ ro ∧ ro + size 0 ≤ r + n ∧ k ≤ ko ∧ ko + size 1 ≤ k + w) :
    Room m c r n k w
      ⊢ iprop((∀ v, Room m c r n k w
            -∗ wp frame (wpE (defs₀ (F := F)) 𝒱₀ (c : Thread nD τ) none) Set.univ (K v) Q)
          -∗ wp frame (wpE (defs₀ (F := F)) 𝒱₀ (c : Thread nD τ) none) Set.univ
              (.op (.load m (Rect.unit (s := Mat R) off size inb).toLoadRect hl) K) Q) := by
  subst ho
  have hS : (m.access (Rect.unit (s := Mat R) ![ro, ko] size inb)).set ⊆ m.view.setOn (box r n k w) := by
    show (m.view.slice _).set ⊆ _
    rw [slice_set]; exact setOn_box_subset m h
  unfold Room
  iintro ⟨%B, H⟩ Hk
  iapply (wp_load_rect 𝒱₀ (c : Thread nD τ) none Set.univ (m := m) (r := Rect.unit (s := Mat R) ![ro, ko] size inb)
    (S := m.view.setOn (box r n k w)) hS) $$ H
  iintro H
  iapply Hk
  iexists B; iexact H

/-- A store of a whole box: it holds what was stored. -/
theorem wp_st {α : Type} {Q : α → sProp 𝕄} {r n k w a : ℕ} {g : ℕ → ℕ → Elt F .bf16} {v : (Rect.unit (s := Mat R) off size inb).shape.Idx → Elt F .bf16}
    {hx : (m.access (Rect.unit (s := Mat R) off size inb)).Stores Finset.univ} {hm}
    {K : PUnit → Prog (TpuEff nD τ sig (Elt F) Λ₀ .tc) α}
    (ho : off = ![r, k]) (hs : size = ![n, w])
    (hv : ∀ j : (Rect.unit (s := Mat R) off size inb).shape.Idx, v j = g (a + (j 0).val) (k + (j 1).val)) :
    Room m c r n k w
      ⊢ iprop((Held m c fullShare r n k w a g
            -∗ wp frame (wpE (defs₀ (F := F)) 𝒱₀ (c : Thread nD τ) none) Set.univ (K ⟨⟩) Q)
          -∗ wp frame (wpE (defs₀ (F := F)) 𝒱₀ (c : Thread nD τ) none) Set.univ
              (.op (.store m (Rect.unit (s := Mat R) off size inb) v Finset.univ hx hm) K) Q) := by
  subst ho hs
  have hS : (m.access (Rect.unit (s := Mat R) ![r, k] ![n, w] inb)).setOn Finset.univ ⊆ m.view.setOn (box r n k w) := by
    show (m.view.slice _).set ⊆ _
    rw [slice_set]; exact subset_rfl
  unfold Room Held
  iintro ⟨%B, H⟩ Hk
  iapply (wp_store 𝒱₀ (c : Thread nD τ) none Set.univ (m := m) (r := Rect.unit (s := Mat R) ![r, k] ![n, w] inb) (Mk := Finset.univ)
    (S := m.view.setOn (box r n k w)) hS) $$ H
  iintro H
  iapply Hk
  iexists _; isplitr
  · ipureintro
    intro j hj
    have hr : j ∈ (Rect.unit (s := Mat R) ![r, k] ![n, w] inb).set := by rw [rect_box]; exact hj
    rw [← Rect.map_emb_univ] at hr
    obtain ⟨x, -, rfl⟩ := Finset.mem_map.mp hr
    refine (View.read_slice_write_emb (v := m.view) (Val := Elt F) (Rect.unit (s := Mat R) ![r, k] ![n, w] inb) B v (Finset.mem_univ x)).trans ?_
    rw [hv x, rect_val, rect_val]
    simp only [Matrix.cons_val_zero, Matrix.cons_val_one]
    congr 1; omega
  · iexact H

end Rules

end Cert.Proof

end
-- ==== Proof.Mesh.lean ====
module

public import proofs.«01_k».proof.Proof.Region

/-!
# The sixteen devices as a cube, and the thirty transfers of a device

The 2048 columns are cut into three streams. Each stream runs its own reduction over the devices, exchanging with the
peer `c xor mask` for four masks in an order of its own; `bit s j c` is the parity that tells the two ends of the `j`-th
exchange of stream `s` apart. Row offsets are made from these bits: `half` is the start of the thousand rows device `c`
reduces, `o1`, `o2`, `o3` the starts inside them of the 512, 256 and 128 rows it still holds after the next exchanges.

A transfer is named by its stream and one of ten places in the protocol:
0 and 1 the two halves of the rows the peer reduces, 2, 3, 4 the shrinking exchanges of partial sums (scatter),
5, 6, 7 the growing exchanges of finished rows, 8 and 9 the two halves of the finished rows the first peer needs (gather).
-/

@[expose] public section

noncomputable section

namespace Cert.Proof

open Cert.KernelIdeal Cert.KernelIdeal.Gen
open Idealize.ShloMosaic

/-- A transfer of one device: its stream and its place in the protocol. -/
abbrev Lb : Type := Fin 3 × Fin 10

/-- First column and number of columns of a stream. -/
def col : Fin 3 → ℕ := ![0, 768, 1408]
def wid : Fin 3 → ℕ := ![768, 640, 640]

def maskOf (s : Fin 3) (j : Fin 4) : ℕ := (![![1, 3, 4, 8], ![3, 4, 1, 8], ![4, 1, 3, 8]] : Fin 3 → Fin 4 → ℕ) s j
def phiOf (s : Fin 3) (j : Fin 4) : ℕ := (![![3, 1, 4, 8], ![2, 4, 1, 8], ![4, 3, 1, 8]] : Fin 3 → Fin 4 → ℕ) s j

/-- The device across the mask `k`. -/
def across (k : ℕ) (c : Dev nD) : Dev nD := ⟨(c.val ^^^ k) % 16, Nat.mod_lt _ (by decide)⟩
/-- The peer of the `j`-th exchange of stream `s`. -/
def peer (s : Fin 3) (j : Fin 4) (c : Dev nD) : Dev nD := across (maskOf s j) c

def bit (s : Fin 3) (j : Fin 4) (c : Dev nD) : ℕ :=
  let x := c.val &&& phiOf s j
  (x + x / 2 + x / 4 + x / 8) % 2

def half (s : Fin 3) (c : Dev nD) : ℕ := bit s 0 c * 1024
def o1 (s : Fin 3) (c : Dev nD) : ℕ := bit s 1 c * 512
def o2 (s : Fin 3) (c : Dev nD) : ℕ := o1 s c + bit s 2 c * 256
def o3 (s : Fin 3) (c : Dev nD) : ℕ := o2 s c + bit s 3 c * 128

/-- Which exchange of its stream a transfer belongs to, and how many rows it moves. -/
def stage : Fin 10 → Fin 4 := ![0, 0, 1, 2, 3, 3, 2, 1, 0, 0]
def rows : Fin 10 → ℕ := ![512, 512, 512, 256, 128, 128, 256, 512, 512, 512]

/-- The device the transfer `x` of device `c` goes to; and, the same map, the one its own comes from. -/
def mate (x : Lb) (c : Dev nD) : Dev nD := peer x.1 (stage x.2) c

/-- First row of the transfer's source in the sender's buffer. -/
def srow (x : Lb) (c : Dev nD) : ℕ := match x.2 with
  | 0 => (1 - bit x.1 0 c) * 1024 + (1 - bit x.1 1 (peer x.1 0 c)) * 512
  | 1 => (1 - bit x.1 0 c) * 1024 + bit x.1 1 (peer x.1 0 c) * 512
  | 2 => (1 - bit x.1 1 c) * 512
  | 3 => o1 x.1 c + (1 - bit x.1 2 c) * 256
  | 4 => o2 x.1 c + (1 - bit x.1 3 c) * 128
  | 5 => half x.1 c + o3 x.1 c
  | 6 => half x.1 c + o2 x.1 c
  | 7 => half x.1 c + o1 x.1 c
  | 8 => half x.1 c + o1 x.1 c
  | 9 => half x.1 c + (1 - bit x.1 1 c) * 512

/-- The same as a row of the global matrix. -/
def arow (x : Lb) (c : Dev nD) : ℕ := match x.2 with
  | 2 | 3 | 4 => half x.1 c + srow x c
  | _ => srow x c

/-- First row of the transfer's destination in the receiver's buffer. -/
def drow (x : Lb) (d : Dev nD) : ℕ := match x.2 with
  | 0 => (1 - bit x.1 1 d) * 512
  | 1 => bit x.1 1 d * 512
  | 2 => 1024
  | 3 => 1536
  | 4 => 1792
  | 5 => half x.1 d + (o2 x.1 d + (1 - bit x.1 3 d) * 128)
  | 6 => half x.1 d + (o1 x.1 d + (1 - bit x.1 2 d) * 256)
  | 7 => half x.1 d + (1 - bit x.1 1 d) * 512
  | 8 => (1 - bit x.1 0 d) * 1024 + bit x.1 1 (peer x.1 0 d) * 512
  | 9 => (1 - bit x.1 0 d) * 1024 + (1 - bit x.1 1 (peer x.1 0 d)) * 512

/-- The same as a row of the global matrix. -/
def brow (x : Lb) (d : Dev nD) : ℕ := match x.2 with
  | 0 => half x.1 d + (1 - bit x.1 1 d) * 512
  | 1 => half x.1 d + o1 x.1 d
  | 2 => half x.1 d + o1 x.1 d
  | 3 => half x.1 d + o2 x.1 d
  | 4 => half x.1 d + o3 x.1 d
  | _ => drow x d

theorem across_across : ∀ (k : Fin 16) (c : Dev nD), across k.val (across k.val c) = c := by decide +kernel
theorem mate_mate : ∀ (x : Lb) (c : Dev nD), mate x (mate x c) = c := by decide +kernel
theorem mate_ne : ∀ (x : Lb) (c : Dev nD), mate x c ≠ c := by decide +kernel
theorem bit_lt : ∀ (s : Fin 3) (j : Fin 4) (c : Dev nD), bit s j c = 0 ∨ bit s j c = 1 := by decide +kernel
/-- What leaves one end arrives at the other: the row of the global matrix is the same; -/
theorem arow_mate : ∀ (x : Lb) (d : Dev nD), arow x (mate x d) = brow x d := by decide +kernel
/-- in the gather the buffer's row is too. -/
theorem srow_mate : ∀ (x : Lb) (d : Dev nD), 5 ≤ x.2.val → drow x (mate x d) = srow x d := by decide +kernel

/-- The four barrier signals cross the masks 1, 3, 4, 8, which every stream uses, in its own order. -/
def gmask : Fin 4 → ℕ := ![1, 3, 4, 8]
def gpeer (i : Fin 4) (c : Dev nD) : Dev nD := across (gmask i) c
def gstage (x : Lb) : Fin 4 := (![![0, 1, 2, 3], ![1, 2, 0, 3], ![2, 0, 1, 3]] : Fin 3 → Fin 4 → Fin 4) x.1 (stage x.2)
theorem gpeer_gstage : ∀ (x : Lb) (c : Dev nD), gpeer (gstage x) c = mate x c := by decide +kernel
theorem gpeer_gpeer : ∀ (i : Fin 4) (c : Dev nD), gpeer i (gpeer i c) = c := by decide +kernel

end Cert.Proof

end
-- ==== Proof.Offsets.lean ====
module

public import proofs.«01_k».proof.Proof.Mesh

/-!
# The program's computed offsets and devices, in the protocol's terms

Each offset the body computes by words is the first row (and the stream's first column) of the box the protocol names;
each device number it computes is the peer the protocol names. Checked on all sixteen devices.
-/

@[expose] public section

noncomputable section

namespace Cert.Proof

open Cert.KernelIdeal Cert.KernelIdeal.Gen
open Idealize.ShloMosaic

theorem off1_eq : ∀ c : Dev nD, k0_off1 c = ![drow (0, 0) (mate (0, 0) c), col 0] := by decide +kernel
theorem off2_eq : ∀ c : Dev nD, k0_off2 c = ![srow (0, 0) c, col 0] := by decide +kernel
theorem off3_eq : ∀ c : Dev nD, k0_off3 c = ![drow (0, 1) (mate (0, 1) c), col 0] := by decide +kernel
theorem off4_eq : ∀ c : Dev nD, k0_off4 c = ![srow (0, 1) c, col 0] := by decide +kernel
theorem off5_eq : ∀ c : Dev nD, k0_off5 c = ![drow (1, 0) (mate (1, 0) c), col 1] := by decide +kernel
theorem off6_eq : ∀ c : Dev nD, k0_off6 c = ![srow (1, 0) c, col 1] := by decide +kernel
theorem off7_eq : ∀ c : Dev nD, k0_off7 c = ![drow (1, 1) (mate (1, 1) c), col 1] := by decide +kernel
theorem off8_eq : ∀ c : Dev nD, k0_off8 c = ![srow (1, 1) c, col 1] := by decide +kernel
theorem off9_eq : ∀ c : Dev nD, k0_off9 c = ![drow (2, 0) (mate (2, 0) c), col 2] := by decide +kernel
theorem off10_eq : ∀ c : Dev nD, k0_off10 c = ![srow (2, 0) c, col 2] := by decide +kernel
theorem off11_eq : ∀ c : Dev nD, k0_off11 c = ![drow (2, 1) (mate (2, 1) c), col 2] := by decide +kernel
theorem off12_eq : ∀ c : Dev nD, k0_off12 c = ![srow (2, 1) c, col 2] := by decide +kernel
theorem off14_eq : ∀ c : Dev nD, k0_off14 c = ![half 0 c + (1 - bit 0 1 c) * 512, col 0] := by decide +kernel
theorem off15_eq : ∀ c : Dev nD, k0_off15 c = ![drow (0, 0) c, col 0] := by decide +kernel
theorem off16_eq : ∀ c : Dev nD, k0_off16 c = ![srow (0, 2) c, col 0] := by decide +kernel
theorem off17_eq : ∀ c : Dev nD, k0_off17 c = ![srow (0, 2) c, col 0] := by decide +kernel
theorem off19_eq : ∀ c : Dev nD, k0_off19 c = ![half 1 c + (1 - bit 1 1 c) * 512, col 1] := by decide +kernel
theorem off20_eq : ∀ c : Dev nD, k0_off20 c = ![drow (1, 0) c, col 1] := by decide +kernel
theorem off21_eq : ∀ c : Dev nD, k0_off21 c = ![srow (1, 2) c, col 1] := by decide +kernel
theorem off22_eq : ∀ c : Dev nD, k0_off22 c = ![srow (1, 2) c, col 1] := by decide +kernel
theorem off24_eq : ∀ c : Dev nD, k0_off24 c = ![half 2 c + (1 - bit 2 1 c) * 512, col 2] := by decide +kernel
theorem off25_eq : ∀ c : Dev nD, k0_off25 c = ![drow (2, 0) c, col 2] := by decide +kernel
theorem off26_eq : ∀ c : Dev nD, k0_off26 c = ![srow (2, 2) c, col 2] := by decide +kernel
theorem off27_eq : ∀ c : Dev nD, k0_off27 c = ![srow (2, 2) c, col 2] := by decide +kernel
theorem off29_eq : ∀ c : Dev nD, k0_off29 c = ![half 0 c + o1 0 c, col 0] := by decide +kernel
theorem off30_eq : ∀ c : Dev nD, k0_off30 c = ![drow (0, 1) c, col 0] := by decide +kernel
theorem off31_eq : ∀ c : Dev nD, k0_off31 c = ![o1 0 c, col 0] := by decide +kernel
theorem off32_eq : ∀ c : Dev nD, k0_off32 c = ![srow (0, 3) c, col 0] := by decide +kernel
theorem off34_eq : ∀ c : Dev nD, k0_off34 c = ![half 1 c + o1 1 c, col 1] := by decide +kernel
theorem off35_eq : ∀ c : Dev nD, k0_off35 c = ![drow (1, 1) c, col 1] := by decide +kernel
theorem off36_eq : ∀ c : Dev nD, k0_off36 c = ![o1 1 c, col 1] := by decide +kernel
theorem off37_eq : ∀ c : Dev nD, k0_off37 c = ![srow (1, 3) c, col 1] := by decide +kernel
theorem off39_eq : ∀ c : Dev nD, k0_off39 c = ![half 2 c + o1 2 c, col 2] := by decide +kernel
theorem off40_eq : ∀ c : Dev nD, k0_off40 c = ![drow (2, 1) c, col 2] := by decide +kernel
theorem off41_eq : ∀ c : Dev nD, k0_off41 c = ![o1 2 c, col 2] := by decide +kernel
theorem off42_eq : ∀ c : Dev nD, k0_off42 c = ![srow (2, 3) c, col 2] := by decide +kernel
theorem off43_eq : ∀ c : Dev nD, k0_off43 c = ![o2 0 c, col 0] := by decide +kernel
theorem off44_eq : ∀ c : Dev nD, k0_off44 c = ![srow (0, 4) c, col 0] := by decide +kernel
theorem off45_eq : ∀ c : Dev nD, k0_off45 c = ![o2 1 c, col 1] := by decide +kernel
theorem off46_eq : ∀ c : Dev nD, k0_off46 c = ![srow (1, 4) c, col 1] := by decide +kernel
theorem off47_eq : ∀ c : Dev nD, k0_off47 c = ![o2 2 c, col 2] := by decide +kernel
theorem off48_eq : ∀ c : Dev nD, k0_off48 c = ![srow (2, 4) c, col 2] := by decide +kernel
theorem off49_eq : ∀ c : Dev nD, k0_off49 c = ![o3 0 c, col 0] := by decide +kernel
theorem off50_eq : ∀ c : Dev nD, k0_off50 c = ![half 0 c + o3 0 c, col 0] := by decide +kernel
theorem off51_eq : ∀ c : Dev nD, k0_off51 c = ![srow (0, 5) c, col 0] := by decide +kernel
theorem off52_eq : ∀ c : Dev nD, k0_off52 c = ![o3 1 c, col 1] := by decide +kernel
theorem off53_eq : ∀ c : Dev nD, k0_off53 c = ![half 1 c + o3 1 c, col 1] := by decide +kernel
theorem off54_eq : ∀ c : Dev nD, k0_off54 c = ![srow (1, 5) c, col 1] := by decide +kernel
theorem off55_eq : ∀ c : Dev nD, k0_off55 c = ![o3 2 c, col 2] := by decide +kernel
theorem off56_eq : ∀ c : Dev nD, k0_off56 c = ![half 2 c + o3 2 c, col 2] := by decide +kernel
theorem off57_eq : ∀ c : Dev nD, k0_off57 c = ![srow (2, 5) c, col 2] := by decide +kernel
theorem off58_eq : ∀ c : Dev nD, k0_off58 c = ![srow (0, 6) c, col 0] := by decide +kernel
theorem off59_eq : ∀ c : Dev nD, k0_off59 c = ![srow (1, 6) c, col 1] := by decide +kernel
theorem off60_eq : ∀ c : Dev nD, k0_off60 c = ![srow (2, 6) c, col 2] := by decide +kernel
theorem off61_eq : ∀ c : Dev nD, k0_off61 c = ![srow (0, 7) c, col 0] := by decide +kernel
theorem off62_eq : ∀ c : Dev nD, k0_off62 c = ![srow (1, 7) c, col 1] := by decide +kernel
theorem off63_eq : ∀ c : Dev nD, k0_off63 c = ![srow (2, 7) c, col 2] := by decide +kernel
theorem off64_eq : ∀ c : Dev nD, k0_off64 c = ![srow (0, 9) c, col 0] := by decide +kernel
theorem off65_eq : ∀ c : Dev nD, k0_off65 c = ![srow (1, 9) c, col 1] := by decide +kernel
theorem off66_eq : ∀ c : Dev nD, k0_off66 c = ![srow (2, 9) c, col 2] := by decide +kernel

theorem dev1_eq (c : Dev nD) : (⟨k0_dev1 c, k0_dev1_lt c⟩ : Dev nD) = gpeer 0 c := by revert c; decide +kernel
theorem dev2_eq (c : Dev nD) : (⟨k0_dev2 c, k0_dev2_lt c⟩ : Dev nD) = gpeer 1 c := by revert c; decide +kernel
theorem dev3_eq (c : Dev nD) : (⟨k0_dev3 c, k0_dev3_lt c⟩ : Dev nD) = gpeer 2 c := by revert c; decide +kernel
theorem dev4_eq (c : Dev nD) : (⟨k0_dev4 c, k0_dev4_lt c⟩ : Dev nD) = gpeer 3 c := by revert c; decide +kernel
theorem dev5_eq (c : Dev nD) : (⟨k0_dev5 c, k0_dev5_lt c⟩ : Dev nD) = mate (0, 0) c := by revert c; decide +kernel
theorem dev6_eq (c : Dev nD) : (⟨k0_dev6 c, k0_dev6_lt c⟩ : Dev nD) = mate (0, 1) c := by revert c; decide +kernel
theorem dev7_eq (c : Dev nD) : (⟨k0_dev7 c, k0_dev7_lt c⟩ : Dev nD) = mate (1, 0) c := by revert c; decide +kernel
theorem dev8_eq (c : Dev nD) : (⟨k0_dev8 c, k0_dev8_lt c⟩ : Dev nD) = mate (1, 1) c := by revert c; decide +kernel
theorem dev9_eq (c : Dev nD) : (⟨k0_dev9 c, k0_dev9_lt c⟩ : Dev nD) = mate (2, 0) c := by revert c; decide +kernel
theorem dev10_eq (c : Dev nD) : (⟨k0_dev10 c, k0_dev10_lt c⟩ : Dev nD) = mate (2, 1) c := by revert c; decide +kernel
theorem dev11_eq (c : Dev nD) : (⟨k0_dev11 c, k0_dev11_lt c⟩ : Dev nD) = mate (0, 2) c := by revert c; decide +kernel
theorem dev12_eq (c : Dev nD) : (⟨k0_dev12 c, k0_dev12_lt c⟩ : Dev nD) = mate (1, 2) c := by revert c; decide +kernel
theorem dev13_eq (c : Dev nD) : (⟨k0_dev13 c, k0_dev13_lt c⟩ : Dev nD) = mate (2, 2) c := by revert c; decide +kernel
theorem dev14_eq (c : Dev nD) : (⟨k0_dev14 c, k0_dev14_lt c⟩ : Dev nD) = mate (0, 3) c := by revert c; decide +kernel
theorem dev15_eq (c : Dev nD) : (⟨k0_dev15 c, k0_dev15_lt c⟩ : Dev nD) = mate (1, 3) c := by revert c; decide +kernel
theorem dev16_eq (c : Dev nD) : (⟨k0_dev16 c, k0_dev16_lt c⟩ : Dev nD) = mate (2, 3) c := by revert c; decide +kernel
theorem dev17_eq (c : Dev nD) : (⟨k0_dev17 c, k0_dev17_lt c⟩ : Dev nD) = mate (0, 4) c := by revert c; decide +kernel
theorem dev18_eq (c : Dev nD) : (⟨k0_dev18 c, k0_dev18_lt c⟩ : Dev nD) = mate (1, 4) c := by revert c; decide +kernel
theorem dev19_eq (c : Dev nD) : (⟨k0_dev19 c, k0_dev19_lt c⟩ : Dev nD) = mate (2, 4) c := by revert c; decide +kernel
theorem dev20_eq (c : Dev nD) : (⟨k0_dev20 c, k0_dev20_lt c⟩ : Dev nD) = mate (0, 5) c := by revert c; decide +kernel
theorem dev21_eq (c : Dev nD) : (⟨k0_dev21 c, k0_dev21_lt c⟩ : Dev nD) = mate (1, 5) c := by revert c; decide +kernel
theorem dev22_eq (c : Dev nD) : (⟨k0_dev22 c, k0_dev22_lt c⟩ : Dev nD) = mate (2, 5) c := by revert c; decide +kernel
theorem dev23_eq (c : Dev nD) : (⟨k0_dev23 c, k0_dev23_lt c⟩ : Dev nD) = mate (0, 6) c := by revert c; decide +kernel
theorem dev24_eq (c : Dev nD) : (⟨k0_dev24 c, k0_dev24_lt c⟩ : Dev nD) = mate (1, 6) c := by revert c; decide +kernel
theorem dev25_eq (c : Dev nD) : (⟨k0_dev25 c, k0_dev25_lt c⟩ : Dev nD) = mate (2, 6) c := by revert c; decide +kernel
theorem dev26_eq (c : Dev nD) : (⟨k0_dev26 c, k0_dev26_lt c⟩ : Dev nD) = mate (0, 7) c := by revert c; decide +kernel
theorem dev27_eq (c : Dev nD) : (⟨k0_dev27 c, k0_dev27_lt c⟩ : Dev nD) = mate (0, 8) c := by revert c; decide +kernel
theorem dev28_eq (c : Dev nD) : (⟨k0_dev28 c, k0_dev28_lt c⟩ : Dev nD) = mate (1, 7) c := by revert c; decide +kernel
theorem dev29_eq (c : Dev nD) : (⟨k0_dev29 c, k0_dev29_lt c⟩ : Dev nD) = mate (1, 8) c := by revert c; decide +kernel
theorem dev30_eq (c : Dev nD) : (⟨k0_dev30 c, k0_dev30_lt c⟩ : Dev nD) = mate (2, 7) c := by revert c; decide +kernel
theorem dev31_eq (c : Dev nD) : (⟨k0_dev31 c, k0_dev31_lt c⟩ : Dev nD) = mate (2, 8) c := by revert c; decide +kernel
theorem dev32_eq (c : Dev nD) : (⟨k0_dev32 c, k0_dev32_lt c⟩ : Dev nD) = mate (0, 9) c := by revert c; decide +kernel
theorem dev33_eq (c : Dev nD) : (⟨k0_dev33 c, k0_dev33_lt c⟩ : Dev nD) = mate (1, 9) c := by revert c; decide +kernel
theorem dev34_eq (c : Dev nD) : (⟨k0_dev34 c, k0_dev34_lt c⟩ : Dev nD) = mate (2, 9) c := by revert c; decide +kernel

end Cert.Proof

end
-- ==== Proof.Contents.lean ====
module

public import proofs.«01_k».proof.Proof.Offsets

/-!
# What the buffers hold

All contents are functions of a row and a column of the global 2048 by 2048 matrix. `part s c` is device `c`'s own
product in the columns of stream `s`; `sum1` … `sum4` are the partial sums after each exchange, each the last one plus
the peer's; `final s` is the finished matrix: in each row the full sum of the device that finishes the row, clipped below at zero.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-- The multi-index of row `r` and column `k` (reduced into range). -/
def mk2 {R C : ℕ} [NeZero R] [NeZero C] (r k : ℕ) : Shape.Idx ⟨2, ![R, C]⟩ := fun a => match a with
  | 0 => ⟨r % R, Nat.mod_lt _ (NeZero.pos R)⟩
  | 1 => ⟨k % C, Nat.mod_lt _ (NeZero.pos C)⟩

theorem mk2_eq {R C : ℕ} [NeZero R] [NeZero C] (j : Shape.Idx ⟨2, ![R, C]⟩) {r k : ℕ} (h₀ : r = (j 0).val) (h₁ : k = (j 1).val) :
    mk2 r k = j := by
  subst h₀ h₁
  funext a
  fin_cases a
  · exact Fin.ext (Nat.mod_eq_of_lt (j 0).isLt)
  · exact Fin.ext (Nat.mod_eq_of_lt (j 1).isLt)

/-- Device `c`'s blocks of the two operands, as its staging buffers hold them. -/
def xv (c : Dev nD) : (cc0_stg0_0 : Ref sig .tc).ty.Contents (Elt F) :=
  (win0_0.blk (0 : Fin 1)).view.read (Elt F) (m ((c : Thread nD τ).loc main_arg0))
def wv (c : Dev nD) : (cc0_stg1_0 : Ref sig .tc).ty.Contents (Elt F) :=
  (win0_1.blk (0 : Fin 1)).view.read (Elt F) (m ((c : Thread nD τ).loc main_arg1))

/-- The second operand by row and column. -/
def wfun (c : Dev nD) (r k : ℕ) : Elt F .bf16 := wv m c (mk2 (R := 128) (C := 2048) r k)

/-- Device `c`'s product, as the kernel computes it in the columns of one stream. -/
def part (s : Fin 3) (c : Dev nD) (r k : ℕ) : Elt F .bf16 := match s with
  | 0 => k0_pay1 (xv m c) (fun j => wfun m c (0 + (0 - 0) + (j 0).val) (0 + (j 1).val)) (mk2 r (k - 0))
  | 1 => k0_pay2 (xv m c) (fun j => wfun m c (0 + (0 - 0) + (j 0).val) (768 + (j 1).val)) (mk2 r (k - 768))
  | 2 => k0_pay3 (xv m c) (fun j => wfun m c (0 + (0 - 0) + (j 0).val) (1408 + (j 1).val)) (mk2 r (k - 1408))

/-- The sum and the larger of two elements. -/
def plus (a b : Elt F .bf16) : Elt F .bf16 := FloatOps.addf (F := F) (φ := .bf16) a b
def clip (a : Elt F .bf16) : Elt F .bf16 := FloatOps.maximumf (F := F) (φ := .bf16) a (Scalar.ofBits .bf16 0x0000#16)

def sum1 (s : Fin 3) (c : Dev nD) (r k : ℕ) : Elt F .bf16 := plus (part m s c r k) (part m s (peer s 0 c) r k)
def sum2 (s : Fin 3) (c : Dev nD) (r k : ℕ) : Elt F .bf16 := plus (sum1 m s c r k) (sum1 m s (peer s 1 c) r k)
def sum3 (s : Fin 3) (c : Dev nD) (r k : ℕ) : Elt F .bf16 := plus (sum2 m s c r k) (sum2 m s (peer s 2 c) r k)
def sum4 (s : Fin 3) (c : Dev nD) (r k : ℕ) : Elt F .bf16 := plus (sum3 m s c r k) (sum3 m s (peer s 3 c) r k)

/-- The device that finishes the `b`-th band of 128 rows in the columns of stream `s`. -/
def owner (s : Fin 3) (b : ℕ) : Dev nD :=
  ((List.finRange 16).find? fun d : Dev nD => decide (half s d + o3 s d = b * 128)).getD 0

theorem owner_band : ∀ (s : Fin 3) (c : Dev nD), owner s ((half s c + o3 s c) / 128) = c ∧ (half s c + o3 s c) % 128 = 0 := by
  decide +kernel

theorem owner_row (s : Fin 3) (c : Dev nD) {i : ℕ} (hi : i < 128) : owner s ((half s c + o3 s c + i) / 128) = c := by
  obtain ⟨h, h0⟩ := owner_band s c
  rw [show (half s c + o3 s c + i) / 128 = (half s c + o3 s c) / 128 by omega, h]

def final (s : Fin 3) (r k : ℕ) : Elt F .bf16 := clip (sum4 m s (owner s (r / 128)) r k)

/-- What the transfer `x` of device `c` carries. -/
def msg (x : Lb) (c : Dev nD) : ℕ → ℕ → Elt F .bf16 := match x.2 with
  | 0 | 1 => part m x.1 c
  | 2 => sum1 m x.1 c
  | 3 => sum2 m x.1 c
  | 4 => sum3 m x.1 c
  | _ => final m x.1

/-! ## The buffers -/

abbrev xM : Memref sig .tc .vmem S2048x128 .bf16 := Memref.whole cc0_stg0_0
abbrev wM : Memref sig .tc .vmem (Mat 128) .bf16 := Memref.whole cc0_stg1_0
abbrev outM : Memref sig .tc .vmem (Mat 2048) .bf16 := Memref.whole cc0_stg2_0
abbrev pbM : Memref sig .tc .vmem (Mat 2048) .bf16 := Memref.whole cc0_scratch0
abbrev accM : Memref sig .tc .vmem (Mat 1024) .bf16 := Memref.whole cc0_scratch1
abbrev rcvM : Memref sig .tc .vmem (Mat 1920) .bf16 := Memref.whole cc0_scratch2

/-- The share of its source a transfer takes along: everything, but the gather's transfers overlap in what they read, and
    each takes half of what the earlier ones left (the last one the rest). -/
def qs : Fin 10 → PosShare TreeShare
  | 5 => fullShare.left
  | 6 => fullShare.right.left
  | 7 => fullShare.right.right.left
  | 8 => fullShare.right.right.right
  | _ => fullShare

/-- Device `c` holds the source of its transfer `x`, with what it carries; -/
def Src (x : Lb) (c : Dev nD) : sProp 𝕄 := match x.2 with
  | 0 | 1 => Held pbM c (qs x.2) (srow x c) (rows x.2) (col x.1) (wid x.1) (arow x c) (msg m x c)
  | 2 | 3 | 4 => Held accM c (qs x.2) (srow x c) (rows x.2) (col x.1) (wid x.1) (arow x c) (msg m x c)
  | _ => Held outM c (qs x.2) (srow x c) (rows x.2) (col x.1) (wid x.1) (arow x c) (msg m x c)

/-- the box the transfer `x` to it lands in, with what it brought; -/
def Land (x : Lb) (d : Dev nD) : sProp 𝕄 := match x.2 with
  | 0 | 1 | 2 | 3 | 4 => Held rcvM d fullShare (drow x d) (rows x.2) (col x.1) (wid x.1) (brow x d) (msg m x (mate x d))
  | _ => Held outM d fullShare (drow x d) (rows x.2) (col x.1) (wid x.1) (brow x d) (msg m x (mate x d))

/-- and the same box at any contents. -/
def Free (x : Lb) (d : Dev nD) : sProp 𝕄 := match x.2 with
  | 0 | 1 | 2 | 3 | 4 => Room (F := F) rcvM d (drow x d) (rows x.2) (col x.1) (wid x.1)
  | _ => Room (F := F) outM d (drow x d) (rows x.2) (col x.1) (wid x.1)

instance Src_storable (x : Lb) (c : Dev nD) : BI.Storable (upEmb : UEmb _ 𝕄) (Src m x c) := by
  unfold Src; split <;> infer_instance
instance Land_storable (x : Lb) (c : Dev nD) : BI.Storable (upEmb : UEmb _ 𝕄) (Land m x c) := by
  unfold Land; split <;> infer_instance
instance Free_storable (x : Lb) (c : Dev nD) : BI.Storable (upEmb : UEmb _ 𝕄) (Free (F := F) x c) := by
  unfold Free; split <;> infer_instance

theorem Land_free (x : Lb) (d : Dev nD) : Land m x d ⊢ Free (F := F) x d := by
  obtain ⟨s, t⟩ := x
  fin_cases t <;> exact Held.room _ d

end Cert.Proof

end
-- ==== Proof.Schedule.lean ====
module

public import proofs.«01_k».proof.Proof.Contents
public import Idealize.ShloMosaic.Lib.Rounds

/-!
# The protocol: semaphores, what they hand over, and the order of the waits

Every device has one barrier semaphore, and for each of its thirty transfers a send semaphore and, for the transfer that
comes to it, a receive semaphore. Each is used for one round:

* the barrier is signalled by the four devices across the masks; the signal across mask `i` hands over the
  room of every box, on the signalling device, that a transfer of the signalled device lands in;
* a send semaphore gives the transfer's source back;
* a receive semaphore gives the box with what the transfer brought.

A device owes its four signals and its thirty transfers, in program order. A wait is safe as everything still owed then
belongs to a semaphore of a higher level than the one waited for: the barrier has level 1, the receive semaphores the
levels of `lvt`, all others 0.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The semaphores -/

/-- The barrier semaphore, which belongs to no launch. -/
abbrev barS : Sem sig := (SemArray.scalar (sig.barrier 0 rfl) : Sems sig S_).sem

/-- The place of a transfer's semaphore among a device's: the send one (`false`) and the receive one (`true`). -/
def semNo (x : Lb) (b : Bool) : ℕ :=
  (if b then (![15, 54, 16, 17, 18, 42, 41, 40, 39, 60] : Fin 10 → ℕ) x.2 else (![3, 51, 4, 5, 6, 30, 29, 28, 27, 57] : Fin 10 → ℕ) x.2)
    + (![4, 1, 4, 4, 4, 4, 4, 4, 4, 1] : Fin 10 → ℕ) x.2 * x.1.val

theorem semNo_lt : ∀ (x : Lb) (b : Bool), semNo x b < sig.nDmaSem := by decide +kernel

def semOf (x : Lb) (b : Bool) : DmaSem sig := ⟨semNo x b, semNo_lt x b⟩

/-- The protocol's semaphores: the barrier (`none`), a transfer's send or receive semaphore. -/
abbrev Ck : Type := Option (Lb × Bool)

def csem : Ck → SemLoc sig
  | none => .reg barS
  | some (x, b) => .dma (semOf x b)

def allXfers : List (Lb × Bool) :=
  (List.finRange 3).flatMap fun s => (List.finRange 10).flatMap fun t => [((s, t), false), ((s, t), true)]

/-- Which of them a semaphore is. -/
def who : SemLoc sig → Option Ck
  | .reg q => if q = barS then some none else none
  | .dma q => (allXfers.find? fun p => decide (semNo p.1 p.2 = q.val)).map some

theorem who_dma : ∀ (x : Lb) (b : Bool), who (.dma (semOf x b)) = some (some (x, b)) := by decide +kernel
theorem who_bar : who (.reg barS) = some none := by decide +kernel
theorem who_csem (k : Ck) : who (csem k) = some k := by
  rcases k with _ | ⟨x, b⟩
  · exact who_bar
  · exact who_dma x b
theorem csem_injective : Function.Injective csem := fun a b h => by
  have := (who_csem a).symm.trans ((congrArg who h).trans (who_csem b))
  exact Option.some_injective _ this

abbrev kcell (ck : Dev nD × Ck) : GSem nD τ sig := ((ck.1 : Thread nD τ), csem ck.2)
abbrev barCell (c : Dev nD) : GSem nD τ sig := ((c : Thread nD τ), .reg barS)
abbrev sndCell (x : Lb) (c : Dev nD) : GSem nD τ sig := ((c : Thread nD τ), .dma (semOf x false))
abbrev rcvCell (x : Lb) (c : Dev nD) : GSem nD τ sig := ((c : Thread nD τ), .dma (semOf x true))

/-- The units a transfer's semaphores count. -/
def amt (x : Lb) : ℕ := sig.dmaCredit .tc (Kind.table .tc .vmem) rcvM.view.buf ⟨2, ![rows x.2, wid x.1]⟩ .bf16
theorem amt_pos (x : Lb) : 0 < amt x := by
  refine sig.dmaCredit_pos _ _ _ _ _ ?_
  revert x; decide +kernel

/-! ## The schedule -/

def Rd : Rounds.Schedule (GSem nD τ sig) (Fin 4) 𝕄 where
  duties g r := if r = 0 ∧ g.1.2 = .tc then
      (match who g.2 with | none => ∅ | some none => Finset.univ | some (some _) => {0}) else ∅
  unitless _ := False
  amount g _ _ := match who g.2 with | some (some (x, _)) => amt x | _ => 1
  payload g _ d := match who g.2 with
    | none => iprop(emp)
    | some none => bigSep (Finset.univ.filter fun x : Lb => gstage x = d) fun x => Free x (gpeer d g.1.1)
    | some (some (x, false)) => Src m x g.1.1
    | some (some (x, true)) => Land m x g.1.1
  amount_pos g _ _ _ := by
    split
    · exact amt_pos _
    · exact Nat.one_pos

instance Rd_payload_storable (g : GSem nD τ sig) (r : ℕ) (d : Fin 4) :
    BI.Storable (upEmb : UEmb _ 𝕄) ((Rd (F := F) m).payload g r d) := by
  dsimp only [Rd]
  split <;> infer_instance

theorem duties_later (g : GSem nD τ sig) : ∀ r, 1 ≤ r → (Rd (F := F) m).duties g r = ∅ :=
  fun r hr => if_neg fun h => by omega

section Facts
variable (c : Dev nD) (x : Lb)

theorem duties_bar : (Rd (F := F) m).duties (barCell c) 0 = Finset.univ := by
  dsimp only [Rd]; rw [if_pos ⟨rfl, rfl⟩, who_bar]
theorem duties_dma (b : Bool) : (Rd (F := F) m).duties ((c : Thread nD τ), .dma (semOf x b)) 0 = {0} := by
  dsimp only [Rd]; rw [if_pos ⟨rfl, rfl⟩, who_dma]
theorem amount_bar (d : Fin 4) : (Rd (F := F) m).amount (barCell c) 0 d = 1 := by
  dsimp only [Rd]; rw [who_bar]
theorem amount_dma (b : Bool) (d : Fin 4) : (Rd (F := F) m).amount ((c : Thread nD τ), .dma (semOf x b)) 0 d = amt x := by
  dsimp only [Rd]; rw [who_dma]
theorem payload_bar (d : Fin 4) : (Rd (F := F) m).payload (barCell c) 0 d
    = bigSep (Finset.univ.filter fun x : Lb => gstage x = d) fun x => Free x (gpeer d c) := by
  dsimp only [Rd]; rw [who_bar]
theorem payload_snd (d : Fin 4) : (Rd (F := F) m).payload (sndCell x c) 0 d = Src m x c := by
  dsimp only [Rd]; rw [who_dma]
theorem payload_rcv (d : Fin 4) : (Rd (F := F) m).payload (rcvCell x c) 0 d = Land m x c := by
  dsimp only [Rd]; rw [who_dma]

theorem expect_bar : (Rd (F := F) m).expect (barCell c) 0 = 4 := by
  unfold Schedule.expect Schedule.amountOf
  rw [duties_bar, Finset.sum_congr rfl fun d _ => amount_bar m c d]; rfl
theorem expect_dma (b : Bool) : (Rd (F := F) m).expect ((c : Thread nD τ), .dma (semOf x b)) 0 = amt x := by
  unfold Schedule.expect Schedule.amountOf; rw [duties_dma, Finset.sum_singleton, amount_dma]

theorem rest_bar : bigSep ((Rd (F := F) m).duties (barCell c) 0 \ ∅) (fun d => (Rd (F := F) m).payload (barCell c) 0 d)
    = bigSep Finset.univ fun d : Fin 4 => bigSep (Finset.univ.filter fun x : Lb => gstage x = d) fun x => Free x (gpeer d c) := by
  rw [Finset.sdiff_empty, duties_bar]; exact bigSep_congr fun d _ => payload_bar m c d
theorem rest_snd : bigSep ((Rd (F := F) m).duties (sndCell x c) 0 \ ∅) (fun d => (Rd (F := F) m).payload (sndCell x c) 0 d) = Src m x c := by
  rw [Finset.sdiff_empty, duties_dma, bigSep_singleton, payload_snd]
theorem rest_rcv : bigSep ((Rd (F := F) m).duties (rcvCell x c) 0 \ ∅) (fun d => (Rd (F := F) m).payload (rcvCell x c) 0 d) = Land m x c := by
  rw [Finset.sdiff_empty, duties_dma, bigSep_singleton, payload_rcv]

end Facts

/-! ## What is owed, and the levels -/

/-- One thing owed: the barrier signal across a mask, or a transfer. -/
abbrev Ow : Type := Fin 4 ⊕ Lb

def owCell (c : Dev nD) : Ow → GSem nD τ sig
  | .inl i => barCell (gpeer i c)
  | .inr x => rcvCell x (mate x c)
def owAmt : Ow → ℕ
  | .inl _ => 1
  | .inr x => amt x

/-- The sum of what a list owes, the head last. -/
def owe (c : Dev nD) (l : List Ow) : CellTallies nD τ sig Unit := l.foldr (fun o O => O + tallyAt (owCell c o) () (owAmt o)) 0

theorem owe_cons (c : Dev nD) (o : Ow) (l : List Ow) : owe c (o :: l) = owe c l + tallyAt (owCell c o) () (owAmt o) := rfl

theorem owe_pos {c : Dev nD} {g : GSem nD τ sig} {u : Unit} : ∀ l : List Ow, 0 < owe c l g u → ∃ o ∈ l, g = owCell c o
  | [], h => absurd h (Nat.lt_irrefl 0)
  | o :: l, h => by
    rw [owe_cons, Pi.add_apply, Finsupp.add_apply, tallyAt_apply] at h
    by_cases hg : g = owCell c o ∧ u = ()
    · exact ⟨o, List.mem_cons_self, hg.1⟩
    · rw [if_neg hg] at h
      obtain ⟨o', ho', e⟩ := owe_pos l h
      exact ⟨o', List.mem_cons_of_mem _ ho', e⟩

/-- The levels of the receive semaphores. -/
def lvt : Fin 10 → ℕ := ![2, 3, 3, 4, 5, 6, 7, 8, 9, 9]

def L (g : GSem nD τ sig) : Finset Unit := if g.1.2 = .tc then {()} else ∅
def lv (g : GSem nD τ sig) (_ : Unit) : ℕ := match who g.2 with
  | some none => 1
  | some (some (x, true)) => lvt x.2
  | _ => 0
def owLev : Ow → ℕ
  | .inl _ => 1
  | .inr x => lvt x.2

theorem L_tc (c : Dev nD) (sm : SemLoc sig) : L ((c : Thread nD τ), sm) = {()} := if_pos rfl
theorem L_of_ne (g : GSem nD τ sig) (h : g.1.2 ≠ .tc) : L g = ∅ := if_neg h
theorem L_ow (c : Dev nD) (o : Ow) : L (owCell c o) = {()} := by cases o <;> exact L_tc _ _
theorem lv_bar (c : Dev nD) : lv (barCell c) () = 1 := by unfold lv; rw [who_bar]
theorem lv_rcv (x : Lb) (c : Dev nD) : lv (rcvCell x c) () = lvt x.2 := by unfold lv; rw [who_dma]
theorem lv_snd (x : Lb) (c : Dev nD) : lv (sndCell x c) () = 0 := by unfold lv; rw [who_dma]
theorem lv_ow (c : Dev nD) (o : Ow) : lv (owCell c o) () = owLev o := by
  cases o
  · exact lv_bar _
  · exact lv_rcv _ _

/-- A wait at a level under everything owed. -/
theorem mayWait (c : Dev nD) (sm : SemLoc sig) (k : ℕ) (l : List Ow) (hk : lv ((c : Thread nD τ), sm) () ≤ k) (hl : ∀ o ∈ l, k < owLev o) :
    (levAts L lv : sProp 𝕄) ⊢ MayWait (c : Thread nD τ) sm () (owe c l) :=
  MayOwe.of_cut (L := L) (lev := lv) k (fun p hp => by rw [Finset.mem_singleton.mp hp, L_tc]; exact Finset.mem_singleton_self _)
    (fun g u hg => by obtain ⟨o, -, rfl⟩ := owe_pos l hg; rw [L_ow]; exact Finset.mem_singleton_self _)
    (fun p hp => by rw [Finset.mem_singleton.mp hp]; exact hk)
    (fun g u hg => by obtain ⟨o, ho, rfl⟩ := owe_pos l hg; rw [lv_ow]; exact hl o ho)

/-! ## The program order -/

/-- The transfers in the order they are sent, their arrivals in the order they are waited for, and the sources in the
    order they are taken back at the end. -/
def sends : List Lb := [(0,0),(0,1),(1,0),(1,1),(2,0),(2,1),(0,2),(1,2),(2,2),(0,3),(1,3),(2,3),(0,4),(1,4),(2,4),(0,5),(1,5),(2,5),
  (0,6),(1,6),(2,6),(0,7),(0,8),(1,7),(1,8),(2,7),(2,8),(0,9),(1,9),(2,9)]
def waits : List Lb := [(0,0),(1,0),(2,0),(0,1),(0,2),(1,1),(1,2),(2,1),(2,2),(0,3),(1,3),(2,3),(0,4),(1,4),(2,4),(0,5),(1,5),(2,5),
  (0,6),(1,6),(2,6),(0,7),(1,7),(2,7),(0,8),(0,9),(1,8),(1,9),(2,8),(2,9)]
def backs : List Lb := [(0,0),(0,8),(0,2),(0,7),(0,3),(0,6),(0,4),(0,5),(0,1),(0,9),(1,0),(1,8),(1,2),(1,7),(1,3),(1,6),(1,4),(1,5),(1,1),(1,9),
  (2,0),(2,8),(2,2),(2,7),(2,3),(2,6),(2,4),(2,5),(2,1),(2,9)]

theorem sends_all : sends.Nodup ∧ ∀ x : Lb, x ∈ sends := by decide +kernel
theorem waits_all : waits.Nodup ∧ ∀ x : Lb, x ∈ waits := by decide +kernel
theorem backs_all : backs.Nodup ∧ ∀ x : Lb, x ∈ backs := by decide +kernel

/-- The four signals, then the transfers. -/
def obl : List Ow := [.inl 0, .inl 1, .inl 2, .inl 3] ++ sends.map .inr

/-- A product over a list. -/
def sepL {I : Type} (l : List I) (Φ : I → sProp 𝕄) : sProp 𝕄 := l.foldr (fun i P => iprop(Φ i ∗ P)) iprop(emp)

theorem sepL_cons {I : Type} (i : I) (l : List I) (Φ : I → sProp 𝕄) : sepL (i :: l) Φ = iprop(Φ i ∗ sepL l Φ) := rfl
theorem sepL_eq {I : Type} [DecidableEq I] (Φ : I → sProp 𝕄) : ∀ l : List I, l.Nodup → sepL l Φ = bigSep l.toFinset Φ
  | [], _ => rfl
  | i :: l, h => by
    rw [List.nodup_cons] at h
    rw [sepL_cons, sepL_eq Φ l h.2, List.toFinset_cons]
    exact (bigSep_insert (by rw [List.mem_toFinset]; exact h.1)).symm
theorem sepL_univ {I : Type} [DecidableEq I] [Fintype I] (Φ : I → sProp 𝕄) {l : List I} (h : l.Nodup ∧ ∀ i, i ∈ l) :
    sepL l Φ = bigSep Finset.univ Φ := by
  rw [sepL_eq Φ l h.1]; congr 1; ext i; simp [h.2 i]

end Cert.Proof

end
-- ==== Proof.Steps.lean ====
module

public import proofs.«01_k».proof.Proof.Schedule

/-!
# One send, one wait

`Run n k` is what a device has, beside its buffers, after its first `n` sends and its first `k` waits for arrivals: what
it still owes, what it needs for the sends and the waits to come, the receipts of the sends done, and the receive
semaphores of the waits done, back at zero. `Back p` is the same at the end, where the sources are taken back one by one.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What all devices know: the invariant of every semaphore of the protocol, that its round is open, the levels. -/
def Recs : sProp 𝕄 :=
  iprop(∃ κ : Dev nD × Ck → ℕ, (bigSep Finset.univ fun ck : Dev nD × Ck => cellInv ER (Rd m) (κ ck) (kcell ck))
    ∗ (bigSep Finset.univ fun ck : Dev nD × Ck => reached ER (kcell ck) 0) ∗ levAts L lv)

instance Recs_persistent : BI.Persistent (Recs (F := F) m) := by unfold Recs; infer_instance

theorem inv_at (κ : Dev nD × Ck → ℕ) (ck : Dev nD × Ck) :
    (bigSep Finset.univ fun ck : Dev nD × Ck => (cellInv ER (Rd m) (κ ck) (kcell ck) : sProp 𝕄)) ⊢ cellInv ER (Rd m) (κ ck) (kcell ck) :=
  bigSep_elim (Finset.mem_univ ck)
theorem reached_at (ck : Dev nD × Ck) :
    (bigSep Finset.univ fun ck : Dev nD × Ck => (reached ER (kcell ck) 0 : sProp 𝕄)) ⊢ reached ER (kcell ck) 0 :=
  bigSep_elim (Finset.mem_univ ck)

/-- For a send to come: the right to pay both semaphores, the place at the own one, the room at the receiver. -/
def Tok (c : Dev nD) (x : Lb) : sProp 𝕄 :=
  iprop(dutyTok ER (sndCell x c) 0 (0 : Fin 4) ∗ dutyTok ER (rcvCell x (mate x c)) 0 (0 : Fin 4) ∗ atPos ER (sndCell x c) 0 ∅ 0
    ∗ Free (F := F) x (mate x c))
/-- The receipt of a send; -/
def Sent (c : Dev nD) (x : Lb) : sProp 𝕄 := iprop(atPos ER (sndCell x c) 0 ∅ 0 ∗ cred (tallyAt (sndCell x c) () (amt x)))
/-- for a wait to come: the place at the receive semaphore and the credit; -/
def Exp (c : Dev nD) (x : Lb) : sProp 𝕄 := iprop(atPos ER (rcvCell x c) 0 ∅ 0 ∗ cred (tallyAt (rcvCell x c) () (amt x)))
/-- the semaphores at zero. -/
def RZero (c : Dev nD) (x : Lb) : sProp 𝕄 := semVal (rcvCell x c) 0
def SZero (c : Dev nD) (x : Lb) : sProp 𝕄 := semVal (sndCell x c) 0

def Owing (c : Dev nD) (l : List Ow) : sProp 𝕄 := iprop(∃ W, owes (c : Thread nD τ) (owe c l) W)

def Run (n k : ℕ) (c : Dev nD) : sProp 𝕄 :=
  iprop(Recs m ∗ Owing c ((sends.drop n).map .inr) ∗ sepL (sends.drop n) (Tok c) ∗ sepL (sends.take n) (Sent c)
    ∗ sepL (waits.drop k) (Exp c) ∗ sepL (waits.take k) (RZero c))

def Back (p : ℕ) (c : Dev nD) : sProp 𝕄 :=
  iprop(Recs m ∗ Owing c [] ∗ sepL (backs.drop p) (Sent c) ∗ sepL (backs.take p) (SZero c) ∗ sepL (backs.take p) fun x => Src m x c)

theorem sepL_snoc {I : Type} (l : List I) (i : I) (Φ : I → sProp 𝕄) : iprop(sepL l Φ ∗ Φ i) ⊢ sepL (l ++ [i]) Φ := by
  induction l with
  | nil =>
    show iprop(emp ∗ Φ i) ⊢ iprop(Φ i ∗ emp)
    iintro ⟨-, H⟩
    isplitl [H]; · iexact H
    iempintro
  | cons j l ih =>
    rw [List.cons_append, sepL_cons, sepL_cons]
    iintro ⟨⟨Hj, Hl⟩, H⟩
    isplitl [Hj]; · iexact Hj
    iapply ih; isplitl [Hl] <;> iassumption

/-! ## The transfer of a box -/

section Box

variable {R R' : ℕ} {ms : Memref sig .tc .vmem (Mat R) .bf16} {md : Memref sig .tc .vmem (Mat R') .bf16}
  {offs offd sz : Fin 2 → ℕ} {inbs : ∀ a, offs a + sz a ≤ (Mat R).size a} {inbd : ∀ a, offd a + sz a ≤ (Mat R').size a}

/-- What a copied box holds. -/
theorem landed {r n k w a r' : ℕ} {g : ℕ → ℕ → Elt F .bf16} (c d : Dev nD) (ho : offs = ![r, k]) (hd : offd = ![r', k]) (hs : sz = ![n, w])
    (B : Buf (Elt F) (ms.view.loc (c : Thread nD τ))) (hB : ∀ j ∈ (box r n k w : Finset (Mat R).Idx), ms.view.read (Elt F) B j = g (a + ((j 0).val - r)) (j 1).val)
    (B' : Buf (Elt F) (md.view.loc (d : Thread nD τ))) (j : (Mat R').Idx) (hj : j ∈ (box r' n k w : Finset (Mat R').Idx)) :
    md.view.read (Elt F) ((md.view.slice (Rect.unit (s := Mat R') offd sz inbd)).write (Elt F) B'
      ((ms.view.slice (Rect.unit (s := Mat R) offs sz inbs)).read (Elt F) B) Finset.univ) j = g (a + ((j 0).val - r')) (j 1).val := by
  subst ho hd hs
  have hr : j ∈ (Rect.unit (s := Mat R') ![r', k] ![n, w] inbd).set := by rw [rect_box]; exact hj
  rw [← Rect.map_emb_univ] at hr
  obtain ⟨x, -, rfl⟩ := Finset.mem_map.mp hr
  refine (View.read_slice_write_emb (v := md.view) (Val := Elt F) (Rect.unit (s := Mat R') ![r', k] ![n, w] inbd) B' _ (Finset.mem_univ x)).trans ?_
  refine (hB ((Rect.unit (s := Mat R) ![r, k] ![n, w] inbs).emb x) (rect_mem inbs x)).trans ?_
  rw [rect_val, rect_val, rect_val, rect_val]
  simp only [Matrix.cons_val_zero, Matrix.cons_val_one]
  congr 1; omega

end Box

/-! ## The three steps -/

section Wp

variable {R R' : ℕ} {offs offd sz : Fin 2 → ℕ} {inbs : ∀ a, offs a + sz a ≤ (Mat R).size a} {inbd : ∀ a, offd a + sz a ≤ (Mat R').size a}

theorem route (c d : Dev nD) : τ.routes (c : Thread nD τ) (d : Thread nD τ) = true := by routes

/-- A send: the source goes with it. -/
theorem wp_snd {α : Type} {Q : α → sProp 𝕄} (c d : Dev nD) (n k : ℕ) (x : Lb) {ms : Memref sig .tc .vmem (Mat R) .bf16}
    {md : Memref sig .tc .vmem (Mat R') .bf16} {hs₁ hd₁} {sS sR : DmaSem sig}
    {hsc : (md.slice (Rect.unit (s := Mat R') offd sz inbd) hd₁ : Memref sig (Dev.tc d : Thread nD τ).2.kind .vmem (Rect.unit (s := Mat R') offd sz inbd).shape .bf16).view.ref.isScScratch = false}
    {hsrc : (ms.slice (Rect.unit (s := Mat R) offs sz inbs) hs₁).view.WordExact}
    {hdst : (md.slice (Rect.unit (s := Mat R') offd sz inbd) hd₁).view.WordExact}
    {hsem : DmaTarget.Typed .vmem (.dma sR) (.remote (Dev.tc d : Thread nD τ) (md.slice (Rect.unit (s := Mat R') offd sz inbd) hd₁ : Memref sig (Dev.tc d : Thread nD τ).2.kind .vmem (Rect.unit (s := Mat R') offd sz inbd).shape .bf16) (.dma sS) hsc)}
    {K : PUnit → Prog (TpuEff nD τ sig (Elt F) Λ₀ .tc) α}
    (hn : sends.drop n = x :: sends.drop (n + 1)) (hn' : sends.take (n + 1) = sends.take n ++ [x])
    (hd : d = mate x c) (hos : offs = ![srow x c, col x.1]) (hod : offd = ![drow x (mate x c), col x.1]) (hsz : sz = ![rows x.2, wid x.1])
    (hsS : sS = semOf x false) (hsR : sR = semOf x true)
    (hN : (md.slice (Rect.unit (s := Mat R') offd sz inbd) hd₁).view.dmaCredit = amt x)
    (hS : Src m x c = Held ms c (qs x.2) (srow x c) (rows x.2) (col x.1) (wid x.1) (arow x c) (msg m x c))
    (hF : Free (F := F) x (mate x c) = Room md (mate x c) (drow x (mate x c)) (rows x.2) (col x.1) (wid x.1))
    (hL : Land m x (mate x c) = Held md (mate x c) fullShare (drow x (mate x c)) (rows x.2) (col x.1) (wid x.1) (brow x (mate x c)) (msg m x (mate x (mate x c)))) :
    iprop(Src m x c ∗ Run m n k c)
      ⊢ iprop((Run m (n + 1) k c -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (ms.slice (Rect.unit (s := Mat R) offs sz inbs) hs₁)
                (.remote (Dev.tc d : Thread nD τ) (md.slice (Rect.unit (s := Mat R') offd sz inbd) hd₁) (.dma sS) hsc) (.dma sR) hsrc hdst hsem) K) Q) := by
  subst hd hsS hsR
  have hset : ∀ {R : ℕ} (mm : Memref sig .tc .vmem (Mat R) .bf16) {off : Fin 2 → ℕ} {r : ℕ} (ho : off = ![r, col x.1]) (inb : ∀ a, off a + sz a ≤ (Mat R).size a),
      (mm.view.slice (Rect.unit (s := Mat R) off sz inb)).set = mm.view.setOn (box r (rows x.2) (col x.1) (wid x.1)) := by
    intro R mm off r ho inb
    rw [slice_set]; subst ho hsz; rfl
  unfold Run
  rw [hS, hn, hn', sepL_cons, List.map_cons]
  unfold Recs Owing Tok
  rw [hF]
  unfold Held Room
  iintro ⟨⟨%B, %hB, Hsrc⟩, ⟨%κ, #HI, #HR, #Hlev⟩, ⟨%W, HO⟩, ⟨⟨Ht, Ht', Hat, ⟨%B', Hdst⟩⟩, Htoks⟩, Hsent, Hexp, Hz⟩ Hk
  rw [← hset ms hos inbs, ← hset md hod inbd]
  have h₁ : ((ms.slice (Rect.unit (s := Mat R) offs sz inbs) hs₁).view.loc (c : Thread nD τ)
        ↦[(ms.slice (Rect.unit (s := Mat R) offs sz inbs) hs₁).view.set]{qs x.2} B : sProp 𝕄) ⊢ (Rd m).payload (sndCell x c) 0 0 := by
    rw [payload_snd, hS]; unfold Held
    rw [← hset ms hos inbs]
    iintro H; iexists B; isplitr; · (ipureintro; exact hB)
    iexact H
  have h₂ : ((md.slice (Rect.unit (s := Mat R') offd sz inbd) hd₁).view.loc (mate x c : Thread nD τ)
        ↦[(md.slice (Rect.unit (s := Mat R') offd sz inbd) hd₁).view.set]{fullShare}
        ((md.slice (Rect.unit (s := Mat R') offd sz inbd) hd₁).view.write (Elt F) B'
          ((ms.slice (Rect.unit (s := Mat R) offs sz inbs) hs₁).view.read (Elt F) B) Finset.univ) : sProp 𝕄)
      ⊢ (Rd m).payload (rcvCell x (mate x c)) 0 0 := by
    rw [payload_rcv, hL]; unfold Held
    rw [← hset md hod inbd]
    iintro H; iexists _; isplitr
    swap; · iexact H
    ipureintro
    rw [mate_mate, ← arow_mate x (mate x c), mate_mate]
    intro j hj
    exact landed c (mate x c) hos hod hsz B hB B' j hj
  iapply (Rounds.wp_send_pointsTo 𝒱₀ ER (Rd m) (c : Thread nD τ) none (κ₁ := κ (c, some (x, false))) (κ₂ := κ (mate x c, some (x, true)))
      (c' := (mate x c : Thread nD τ)) (src := ms.slice (Rect.unit (s := Mat R) offs sz inbs) hs₁) (dst := md.slice (Rect.unit (s := Mat R') offd sz inbd) hd₁)
      (sS := .dma (semOf x false)) (sem := .dma (semOf x true)) (r₁ := 0) (r₂ := 0) (d₁ := 0) (d₂ := 0) (fs := B) (fd := B') (by rw [duties_dma]; exact Finset.mem_singleton_self _) (by rw [duties_dma]; exact Finset.mem_singleton_self _)
      () () (amt x) hN (amount_dma m c x false 0) (amount_dma m (mate x c) x true 0) (owe c ((sends.drop (n + 1)).map .inr)) (owe_cons c (.inr x) _) (W := W)
      (q := qs x.2) h₁ h₂ (route _ _)) $$ [Hsrc Hdst HO Ht Ht']
  · isplitr; · iapply (inv_at m κ (c, some (x, false))); iexact HI
    isplitr; · iapply (inv_at m κ (mate x c, some (x, true))); iexact HI
    isplitl [Hsrc]; · iexact Hsrc
    isplitl [Hdst]; · iexact Hdst
    isplitl [HO]; · iexact HO
    isplitl [Ht]; · iexact Ht
    isplitr; · iapply (reached_at (F := F) (c, some (x, false))); iexact HR
    isplitl [Ht']; · iexact Ht'
    iapply (reached_at (F := F) (mate x c, some (x, true))); iexact HR
  iintro ⟨Hc, HO⟩
  iapply Hk
  isplitr
  · iexists κ; isplitr; · iexact HI
    isplitr; · iexact HR
    iexact Hlev
  isplitl [HO]; · iexists W; iexact HO
  isplitl [Htoks]; · iexact Htoks
  isplitl [Hsent Hat Hc]
  · iapply sepL_snoc
    isplitl [Hsent]; · iexact Hsent
    unfold Sent; isplitl [Hat] <;> iassumption
  isplitl [Hexp] <;> iassumption

/-- A wait for an arrival: the box comes with what it brought. -/
theorem wp_rcv {α : Type} {Q : α → sProp 𝕄} (c : Dev nD) (n k : ℕ) (x : Lb) {s : Shape} {src : Memref sig .tc .vmem s .bf16} {s' : Shape}
    {dst : Memref sig .tc .vmem s' .bf16} {sR : DmaSem sig} {hsrc : src.view.WordExact} {hdst : dst.view.WordExact}
    {K : PUnit → Prog (TpuEff nD τ sig (Elt F) Λ₀ .tc) α}
    (hk : waits.drop k = x :: waits.drop (k + 1)) (hk' : waits.take (k + 1) = waits.take k ++ [x])
    (hlev : ∀ o ∈ sends.drop n, lvt x.2 < lvt o.2) (hsR : sR = semOf x true) (hN : dst.view.dmaCredit = amt x) :
    Run m n k c
      ⊢ iprop((iprop(Land m x c ∗ Run m n (k + 1) c) -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 sR src dst hsrc hdst) K) Q) := by
  subst hsR
  unfold Run
  rw [hk, hk', sepL_cons]
  unfold Recs Owing Exp
  iintro ⟨⟨%κ, #HI, #HR, #Hlev⟩, ⟨%W, HO⟩, Htoks, Hsent, ⟨⟨Hat, Hc⟩, Hexp⟩, Hz⟩ Hk
  iapply (Rounds.wp_wait_rest_token 𝒱₀ ER (Rd m) (c : Thread nD τ) none (κ := κ (c, some (x, true)))
      (wpE_waitDma2_eq 𝒱₀ (c : Thread nD τ) none Set.univ) (Set.mem_univ _) () (O := owe c ((sends.drop n).map .inr)) (W := W) (R := 0) (m := 0) (T := ∅)
      (by rw [Nat.zero_add, expect_dma, hN])) $$ [Hc HO Hat]
  · rw [hN]
    isplitr; · iapply (inv_at m κ (c, some (x, true))); iexact HI
    isplitl [Hc]; · iexact Hc
    isplitl [HO]; · iexact HO
    isplitr
    · iapply (mayWait (F := F) c (.dma (semOf x true)) (lvt x.2) _ (le_of_eq (lv_rcv x c)) (by
        intro o ho
        obtain ⟨y, hy, rfl⟩ := List.mem_map.mp ho
        exact hlev y hy)); iexact Hlev
    iexact Hat
  iintro ⟨HO, Hat, -, Hpay⟩
  ihave Hland := (Entails.of_eq (rest_rcv m c x)) $$ Hpay
  imod (Rounds.cell_close ER (Rd m) (Set.mem_univ (κ (c, some (x, true)))) (fun h => h) (R := 0 + 1) (duties_later m (rcvCell x c))) $$ [Hat] with Hzx
  · isplitr; · iapply (inv_at m κ (c, some (x, true))); iexact HI
    iexact Hat
  iapply Hk
  isplitl [Hland]; · iexact Hland
  isplitr
  · iexists κ; isplitr; · iexact HI
    isplitr; · iexact HR
    iexact Hlev
  isplitl [HO]; · iexists _; iexact HO
  isplitl [Htoks]; · iexact Htoks
  isplitl [Hsent]; · iexact Hsent
  isplitl [Hexp]; · iexact Hexp
  iapply sepL_snoc
  isplitl [Hz]; · iexact Hz
  unfold RZero; iexact Hzx

/-- A wait for a send to be over: the source comes back. -/
theorem wp_bck {α : Type} {Q : α → sProp 𝕄} (c : Dev nD) (p : ℕ) (x : Lb) {s : Shape} {src : Memref sig .tc .vmem s .bf16} {s' : Shape}
    {dst : Memref sig .tc .vmem s' .bf16} {sS : DmaSem sig} {hsrc : src.view.WordExact} {hdst : dst.view.WordExact}
    {K : PUnit → Prog (TpuEff nD τ sig (Elt F) Λ₀ .tc) α}
    (hp : backs.drop p = x :: backs.drop (p + 1)) (hp' : backs.take (p + 1) = backs.take p ++ [x])
    (hsS : sS = semOf x false) (hN : dst.view.dmaCredit = amt x) :
    Back m p c
      ⊢ iprop((Back m (p + 1) c -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 sS src dst hsrc hdst) K) Q) := by
  subst hsS
  unfold Back
  rw [hp, hp', sepL_cons]
  unfold Recs Owing Sent
  iintro ⟨⟨%κ, #HI, #HR, #Hlev⟩, ⟨%W, HO⟩, ⟨⟨Hat, Hc⟩, Hsent⟩, Hz, Hsrc⟩ Hk
  iapply (Rounds.wp_wait_rest_token 𝒱₀ ER (Rd m) (c : Thread nD τ) none (κ := κ (c, some (x, false)))
      (wpE_waitDma2_eq 𝒱₀ (c : Thread nD τ) none Set.univ) (Set.mem_univ _) () (O := owe c []) (W := W) (R := 0) (m := 0) (T := ∅)
      (by rw [Nat.zero_add, expect_dma, hN])) $$ [Hc HO Hat]
  · rw [hN]
    isplitr; · iapply (inv_at m κ (c, some (x, false))); iexact HI
    isplitl [Hc]; · iexact Hc
    isplitl [HO]; · iexact HO
    isplitr
    · iapply (mayWait (F := F) c (.dma (semOf x false)) 0 [] (le_of_eq (lv_snd x c)) (by intro o ho; cases ho)); iexact Hlev
    iexact Hat
  iintro ⟨HO, Hat, -, Hpay⟩
  ihave Hx := (Entails.of_eq (rest_snd m c x)) $$ Hpay
  imod (Rounds.cell_close ER (Rd m) (Set.mem_univ (κ (c, some (x, false)))) (fun h => h) (R := 0 + 1) (duties_later m (sndCell x c))) $$ [Hat] with Hzx
  · isplitr; · iapply (inv_at m κ (c, some (x, false))); iexact HI
    iexact Hat
  iapply Hk
  isplitr
  · iexists κ; isplitr; · iexact HI
    isplitr; · iexact HR
    iexact Hlev
  isplitl [HO]; · iexists _; iexact HO
  isplitl [Hsent]; · iexact Hsent
  isplitl [Hz Hzx]
  · iapply sepL_snoc
    isplitl [Hz]; · iexact Hz
    unfold SZero; iexact Hzx
  iapply (sepL_snoc _ x fun x => Src m x c)
  isplitl [Hsrc] <;> iassumption

/-- After all sends and waits: the receive semaphores at zero, the sources to be taken back. -/
theorem run_back (c : Dev nD) : Run m 30 30 c ⊢ iprop(sepL waits (RZero c) ∗ Back (F := F) m 0 c) := by
  unfold Run Back
  rw [show sends.drop 30 = [] from rfl, show sends.take 30 = sends from rfl, show waits.drop 30 = [] from rfl,
    show waits.take 30 = waits from rfl, show backs.drop 0 = backs from rfl, show backs.take 0 = [] from rfl,
    sepL_univ _ sends_all, sepL_univ _ backs_all]
  show iprop(Recs m ∗ Owing c [] ∗ emp ∗ (bigSep Finset.univ (Sent c)) ∗ emp ∗ sepL waits (RZero c)) ⊢
    iprop(sepL waits (RZero c) ∗ Recs m ∗ Owing c [] ∗ (bigSep Finset.univ (Sent c)) ∗ emp ∗ emp)
  iintro ⟨HR, HO, -, HS, -, HZ⟩
  isplitl [HZ]; · iexact HZ
  isplitl [HR]; · iexact HR
  isplitl [HO]; · iexact HO
  isplitl [HS]; · iexact HS
  isplitl <;> iempintro

end Wp

end Cert.Proof

end
-- ==== Proof.Flow.lean ====
module

public import proofs.«01_k».proof.Proof.Steps

/-!
# How the boxes of one stream split and join

Everything here is about one device and one stream. A buffer's rows halve at the device's bits (`Held_half`), and the
parts are the sources of its transfers and the boxes its own arrivals land in.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem sep_swap (P Q : sProp 𝕄) : iprop(P ∗ Q) = iprop(Q ∗ P) := BI.equiv_iff.mp ⟨BI.sep_comm, BI.sep_comm⟩

/-- A box's two halves, the one the bit `b` picks first. -/
theorem Held_half {R : ℕ} (mm : Memref sig .tc .vmem (Mat R) .bf16) (c : Dev nD) (q : PosShare TreeShare) {b : ℕ} (hb : b = 0 ∨ b = 1)
    {N : ℕ} (n : ℕ) (hN : N = n + n) (r k w a : ℕ) (g : ℕ → ℕ → Elt F .bf16) :
    Held mm c q r N k w a g
      = iprop(Held mm c q (r + b * n) n k w (a + b * n) g ∗ Held mm c q (r + (1 - b) * n) n k w (a + (1 - b) * n) g) := by
  subst hN
  rcases hb with rfl | rfl
  · rw [Held_rows, Nat.zero_mul, Nat.sub_zero, Nat.one_mul, Nat.add_zero, Nat.add_zero]
  · rw [Held_rows, Nat.sub_self, Nat.zero_mul, Nat.one_mul, Nat.add_zero, Nat.add_zero, sep_swap]

theorem Room_half {R : ℕ} (mm : Memref sig .tc .vmem (Mat R) .bf16) (c : Dev nD) {b : ℕ} (hb : b = 0 ∨ b = 1) {N : ℕ} (n : ℕ) (hN : N = n + n) (r k w : ℕ) :
    Room (F := F) mm c r N k w = iprop(Room mm c (r + b * n) n k w ∗ Room mm c (r + (1 - b) * n) n k w) := by
  subst hN
  rcases hb with rfl | rfl
  · rw [Room_rows, Nat.zero_mul, Nat.sub_zero, Nat.one_mul, Nat.add_zero]
  · rw [Room_rows, Nat.sub_self, Nat.zero_mul, Nat.one_mul, Nat.add_zero, sep_swap]

theorem full_halves : (fullShare : PosShare TreeShare) ∈ PCS.op fullShare.left fullShare.right := PosShare.mem_left_op_right _
theorem right_halves : (fullShare : PosShare TreeShare).right ∈ PCS.op (fullShare : PosShare TreeShare).right.left fullShare.right.right :=
  PosShare.mem_left_op_right _
theorem rest_halves : (fullShare : PosShare TreeShare).right.right
    ∈ PCS.op (fullShare : PosShare TreeShare).right.right.left fullShare.right.right.right := PosShare.mem_left_op_right _

variable (s : Fin 3) (c : Dev nD)

/-! ## Scatter: the product and the partial sums -/

/-- Rows of the device's own product in its staging buffer. -/
def Pb (r : ℕ) : sProp 𝕄 := Held pbM c fullShare r 512 (col s) (wid s) r (part m s c)
/-- Rows of a partial sum, by local row. -/
def Acc (r n : ℕ) (g : ℕ → ℕ → Elt F .bf16) : sProp 𝕄 := Held accM c fullShare r n (col s) (wid s) (half s c + r) g
/-- Finished rows of the result at a share. -/
def Out (q : PosShare TreeShare) (r n : ℕ) : sProp 𝕄 := Held outM c q r n (col s) (wid s) r (final m s)

theorem src2 : Src m (s, 2) c = Acc s c ((1 - bit s 1 c) * 512) 512 (sum1 m s c) := rfl
theorem src3 : Src m (s, 3) c = Acc s c (o1 s c + (1 - bit s 2 c) * 256) 256 (sum2 m s c) := rfl
theorem src4 : Src m (s, 4) c = Acc s c (o2 s c + (1 - bit s 3 c) * 128) 128 (sum3 m s c) := rfl
theorem src5 : Src m (s, 5) c = Out m s c fullShare.left (half s c + o3 s c) 128 := rfl
theorem src6 : Src m (s, 6) c = Out m s c fullShare.right.left (half s c + o2 s c) 256 := rfl
theorem src7 : Src m (s, 7) c = Out m s c fullShare.right.right.left (half s c + o1 s c) 512 := rfl
theorem src8 : Src m (s, 8) c = Out m s c fullShare.right.right.right (half s c + o1 s c) 512 := rfl
theorem src9 : Src m (s, 9) c = Out m s c fullShare (half s c + (1 - bit s 1 c) * 512) 512 := rfl
theorem land5 : Land m (s, 5) c = Out m s c fullShare (half s c + (o2 s c + (1 - bit s 3 c) * 128)) 128 := rfl
theorem land6 : Land m (s, 6) c = Out m s c fullShare (half s c + (o1 s c + (1 - bit s 2 c) * 256)) 256 := rfl
theorem land7 : Land m (s, 7) c = Src m (s, 9) c := rfl
theorem land8 : Land m (s, 8) c = Out m s c fullShare ((1 - bit s 0 c) * 1024 + bit s 1 (peer s 0 c) * 512) 512 := rfl
theorem land9 : Land m (s, 9) c = Out m s c fullShare ((1 - bit s 0 c) * 1024 + (1 - bit s 1 (peer s 0 c)) * 512) 512 := rfl

/-- The product's rows: two quarters for the first peer, two for the device itself. -/
theorem pb_split : Held pbM c fullShare 0 2048 (col s) (wid s) 0 (part m s c)
    = iprop((Pb m s c (half s c + o1 s c) ∗ Pb m s c (half s c + (1 - bit s 1 c) * 512)) ∗ Src m (s, 1) c ∗ Src m (s, 0) c) := by
  rw [Held_half pbM c _ (bit_lt s 0 c) 1024 rfl, Held_half pbM c _ (bit_lt s 1 c) 512 rfl,
    Held_half pbM c _ (bit_lt s 1 (peer s 0 c)) 512 rfl]
  simp only [Nat.zero_add]
  rfl

theorem acc_room : Room (F := F) accM c 0 1024 (col s) (wid s)
    = iprop(Room accM c (o1 s c) 512 (col s) (wid s) ∗ Room accM c ((1 - bit s 1 c) * 512) 512 (col s) (wid s)) := by
  rw [Room_half accM c (bit_lt s 1 c) 512 rfl]
  simp only [Nat.zero_add]
  rfl

theorem acc_split2 (g : ℕ → ℕ → Elt F .bf16) : Acc s c (o1 s c) 512 g
    = iprop(Acc s c (o2 s c) 256 g ∗ Acc s c (o1 s c + (1 - bit s 2 c) * 256) 256 g) := by
  unfold Acc
  rw [Held_half accM c _ (bit_lt s 2 c) 256 rfl, Nat.add_assoc, Nat.add_assoc]
  rfl

theorem acc_split3 (g : ℕ → ℕ → Elt F .bf16) : Acc s c (o2 s c) 256 g
    = iprop(Acc s c (o3 s c) 128 g ∗ Acc s c (o2 s c + (1 - bit s 3 c) * 128) 128 g) := by
  unfold Acc
  rw [Held_half accM c _ (bit_lt s 3 c) 128 rfl, Nat.add_assoc, Nat.add_assoc]
  rfl

/-! ## Gather: the finished rows -/

theorem out_share {q q₁ q₂ : PosShare TreeShare} (hq : q ∈ PCS.op q₁ q₂) (r n : ℕ) :
    Out m s c q r n = iprop(Out m s c q₁ r n ∗ Out m s c q₂ r n) := Held_share outM c hq r n _ _ _ _

theorem out_half (q : PosShare TreeShare) (r : ℕ) {N : ℕ} (n : ℕ) (hN : N = n + n) {b : ℕ} (hb : b = 0 ∨ b = 1) :
    Out m s c q r N = iprop(Out m s c q (r + b * n) n ∗ Out m s c q (r + (1 - b) * n) n) := Held_half outM c q hb n hN r _ _ r _

theorem out_256 (q : PosShare TreeShare) : Out m s c q (half s c + o2 s c) 256
    = iprop(Out m s c q (half s c + o3 s c) 128 ∗ Out m s c q (half s c + (o2 s c + (1 - bit s 3 c) * 128)) 128) := by
  rw [out_half m s c q _ 128 rfl (bit_lt s 3 c), Nat.add_assoc, Nat.add_assoc]; rfl
theorem out_512 (q : PosShare TreeShare) : Out m s c q (half s c + o1 s c) 512
    = iprop(Out m s c q (half s c + o2 s c) 256 ∗ Out m s c q (half s c + (o1 s c + (1 - bit s 2 c) * 256)) 256) := by
  rw [out_half m s c q _ 256 rfl (bit_lt s 2 c), Nat.add_assoc, Nat.add_assoc]; rfl
theorem out_1024 : Out m s c fullShare (half s c) 1024
    = iprop(Out m s c fullShare (half s c + o1 s c) 512 ∗ Src m (s, 9) c) := by
  rw [src9, out_half m s c _ _ 512 rfl (bit_lt s 1 c)]; rfl
theorem out_2048 : Out m s c fullShare 0 2048
    = iprop(Out m s c fullShare (half s c) 1024 ∗ Land m (s, 8) c ∗ Land m (s, 9) c) := by
  rw [land8, land9, out_half m s c _ 0 1024 rfl (bit_lt s 0 c), out_half m s c _ (0 + (1 - bit s 0 c) * 1024) 512 rfl (bit_lt s 1 (peer s 0 c))]
  simp only [Nat.zero_add]; rfl

/-- The finished rows are sent and half of them kept; -/
theorem gather0 : Out m s c fullShare (half s c + o3 s c) 128 ⊢ iprop(Src m (s, 5) c ∗ Out m s c fullShare.right (half s c + o3 s c) 128) := by
  rw [out_share m s c full_halves, src5]

/-- with the first arrival they make 256; -/
theorem gather1 : iprop(Land m (s, 5) c ∗ Out m s c fullShare.right (half s c + o3 s c) 128)
    ⊢ iprop(Src m (s, 6) c ∗ Out m s c fullShare.right.right (half s c + o2 s c) 256
        ∗ Out m s c fullShare.left (half s c + (o2 s c + (1 - bit s 3 c) * 128)) 128) := by
  rw [land5, out_share m s c full_halves (half s c + (o2 s c + (1 - bit s 3 c) * 128)), src6]
  iintro ⟨⟨HL, HR⟩, H⟩
  ihave HH := (Entails.of_eq (out_256 m s c fullShare.right).symm) $$ [H HR]
  · isplitl [H] <;> iassumption
  ihave HH := (Entails.of_eq (out_share m s c right_halves _ _)) $$ HH
  icases HH with ⟨H1, H2⟩
  isplitl [H1]; · iexact H1
  isplitl [H2] <;> iassumption

/-- with the second 512, sent to two devices. -/
theorem gather2 : iprop(Land m (s, 6) c ∗ Out m s c fullShare.right.right (half s c + o2 s c) 256)
    ⊢ iprop(Src m (s, 7) c ∗ Src m (s, 8) c
        ∗ Out m s c fullShare.left (half s c + (o1 s c + (1 - bit s 2 c) * 256)) 256
        ∗ Out m s c fullShare.right.left (half s c + (o1 s c + (1 - bit s 2 c) * 256)) 256) := by
  rw [land6, out_share m s c full_halves (half s c + (o1 s c + (1 - bit s 2 c) * 256)),
    out_share m s c right_halves (half s c + (o1 s c + (1 - bit s 2 c) * 256)), src7, src8]
  iintro ⟨⟨HL, HRL, HR⟩, H⟩
  ihave HH := (Entails.of_eq (out_512 m s c fullShare.right.right).symm) $$ [H HR]
  · isplitl [H] <;> iassumption
  ihave HH := (Entails.of_eq (out_share m s c rest_halves _ _)) $$ HH
  icases HH with ⟨H1, H2⟩
  isplitl [H1]; · iexact H1
  isplitl [H2]; · iexact H2
  isplitl [HL] <;> iassumption

/-- What a device keeps beside the sources of its gather sends. -/
def Kept : sProp 𝕄 :=
  iprop(Out m s c fullShare.left (half s c + (o2 s c + (1 - bit s 3 c) * 128)) 128
    ∗ Out m s c fullShare.left (half s c + (o1 s c + (1 - bit s 2 c) * 256)) 256
    ∗ Out m s c fullShare.right.left (half s c + (o1 s c + (1 - bit s 2 c) * 256)) 256
    ∗ Land m (s, 8) c ∗ Land m (s, 9) c)

/-- In the end the sources are back and the whole result is there. -/
theorem gather_end : iprop(Kept m s c ∗ Src m (s, 5) c ∗ Src m (s, 6) c ∗ Src m (s, 7) c ∗ Src m (s, 8) c ∗ Src m (s, 9) c)
    ⊢ Out m s c fullShare 0 2048 := by
  unfold Kept
  rw [src5, src6, src7, src8]
  iintro ⟨⟨HL, HL', HRL', H8, H9⟩, S5, S6, S7, S8, S9⟩
  ihave H512 := (Entails.of_eq (out_share m s c rest_halves _ _).symm) $$ [S7 S8]
  · isplitl [S7] <;> iassumption
  ihave H := (Entails.of_eq (out_512 m s c fullShare.right.right)) $$ H512
  icases H with ⟨HA, HB⟩
  ihave HB := (Entails.of_eq (out_share m s c right_halves _ _).symm) $$ [HRL' HB]
  · isplitl [HRL'] <;> iassumption
  ihave HB := (Entails.of_eq (out_share m s c full_halves _ _).symm) $$ [HL' HB]
  · isplitl [HL'] <;> iassumption
  ihave HA := (Entails.of_eq (out_share m s c right_halves _ _).symm) $$ [S6 HA]
  · isplitl [S6] <;> iassumption
  ihave HA := (Entails.of_eq (out_256 m s c fullShare.right)) $$ HA
  icases HA with ⟨HA, HC⟩
  ihave HA := (Entails.of_eq (out_share m s c full_halves _ _).symm) $$ [S5 HA]
  · isplitl [S5] <;> iassumption
  ihave HC := (Entails.of_eq (out_share m s c full_halves _ _).symm) $$ [HL HC]
  · isplitl [HL] <;> iassumption
  ihave HA := (Entails.of_eq (out_256 m s c fullShare).symm) $$ [HA HC]
  · isplitl [HA] <;> iassumption
  ihave HA := (Entails.of_eq (out_512 m s c fullShare).symm) $$ [HA HB]
  · isplitl [HA] <;> iassumption
  ihave HA := (Entails.of_eq (out_1024 m s c).symm) $$ [HA S9]
  · isplitl [HA] <;> iassumption
  iapply (Entails.of_eq (out_2048 m s c).symm)
  isplitl [HA]; · iexact HA
  isplitl [H8] <;> iassumption

/-! ## Before and after: whole buffers -/

theorem free5 : Free (F := F) (s, 5) c = Room outM c (half s c + (o2 s c + (1 - bit s 3 c) * 128)) 128 (col s) (wid s) := rfl
theorem free6 : Free (F := F) (s, 6) c = Room outM c (half s c + (o1 s c + (1 - bit s 2 c) * 256)) 256 (col s) (wid s) := rfl
theorem free7 : Free (F := F) (s, 7) c = Room outM c (half s c + (1 - bit s 1 c) * 512) 512 (col s) (wid s) := rfl
theorem free8 : Free (F := F) (s, 8) c = Room outM c ((1 - bit s 0 c) * 1024 + bit s 1 (peer s 0 c) * 512) 512 (col s) (wid s) := rfl
theorem free9 : Free (F := F) (s, 9) c = Room outM c ((1 - bit s 0 c) * 1024 + (1 - bit s 1 (peer s 0 c)) * 512) 512 (col s) (wid s) := rfl

/-- At launch the result buffer is the room of the device's own rows and of the five arrivals of the gather; -/
theorem out_room : Room (F := F) outM c 0 2048 (col s) (wid s)
    = iprop((((Room outM c (half s c + o3 s c) 128 (col s) (wid s) ∗ Free (s, 5) c) ∗ Free (s, 6) c) ∗ Free (s, 7) c) ∗ Free (s, 8) c ∗ Free (s, 9) c) := by
  rw [Room_half outM c (bit_lt s 0 c) 1024 rfl, Room_half outM c (bit_lt s 1 c) 512 rfl,
    Room_half outM c (bit_lt s 1 (peer s 0 c)) 512 rfl,
    Room_half outM c (bit_lt s 2 c) 256 rfl (0 + bit s 0 c * 1024 + bit s 1 c * 512),
    Room_half outM c (bit_lt s 3 c) 128 rfl (0 + bit s 0 c * 1024 + bit s 1 c * 512 + bit s 2 c * 256)]
  rw [free5, free6, free7, free8, free9]
  unfold o3 o2 o1 half
  simp only [Nat.zero_add, Nat.add_assoc]

/-- the arrivals buffer is the room of the five arrivals of the scatter. -/
theorem rcv_room : Room (F := F) rcvM c 0 1920 (col s) (wid s)
    = iprop((((Free (s, 1) c ∗ Free (s, 0) c) ∗ Free (s, 2) c) ∗ Free (s, 3) c) ∗ Free (s, 4) c) := by
  have h : Room (F := F) rcvM c 0 1920 (col s) (wid s) = Room rcvM c 0 (1024 + 512 + 256 + 128) (col s) (wid s) := rfl
  rw [h, Room_rows, Room_rows, Room_rows, Room_half rcvM c (bit_lt s 1 c) 512 rfl]
  simp only [Nat.zero_add]
  rfl

/-- The whole width of a buffer, and the three streams' columns. -/
theorem Room_width {R : ℕ} (mm : Memref sig .tc .vmem (Mat R) .bf16) (r n : ℕ) :
    Room (F := F) mm c r n 0 2048
      = iprop((Room mm c r n (col 0) (wid 0) ∗ Room mm c r n (col 1) (wid 1)) ∗ Room mm c r n (col 2) (wid 2)) := by
  have h : Room (F := F) mm c r n 0 2048 = Room mm c r n 0 (768 + 640 + 640) := rfl
  rw [h, Room_cols, Room_cols]
  simp only [Nat.zero_add]
  rfl

theorem pb_back : iprop((Pb m s c (half s c + o1 s c) ∗ Pb m s c (half s c + (1 - bit s 1 c) * 512)) ∗ Src m (s, 1) c ∗ Src m (s, 0) c)
    ⊢ Room (F := F) pbM c 0 2048 (col s) (wid s) := by
  rw [← pb_split]; exact Held.room _ _

theorem acc_back (g : ℕ → ℕ → Elt F .bf16) : iprop(Src m (s, 2) c ∗ Src m (s, 3) c ∗ Src m (s, 4) c ∗ Acc s c (o3 s c) 128 g)
    ⊢ Room (F := F) accM c 0 1024 (col s) (wid s) := by
  have h3 : Room (F := F) accM c (o1 s c) 512 (col s) (wid s)
      = iprop((Room accM c (o3 s c) 128 (col s) (wid s) ∗ Room accM c (o2 s c + (1 - bit s 3 c) * 128) 128 (col s) (wid s))
        ∗ Room accM c (o1 s c + (1 - bit s 2 c) * 256) 256 (col s) (wid s)) := by
    rw [Room_half accM c (bit_lt s 2 c) 256 rfl, Room_half accM c (bit_lt s 3 c) 128 rfl (o1 s c + bit s 2 c * 256)]
    rfl
  rw [acc_room, h3, src2, src3, src4]
  unfold Acc
  iintro ⟨H2, H3, H4, H⟩
  isplitr [H2]
  · isplitr [H3]
    · isplitl [H]; · iapply (Held.room accM c); iexact H
      iapply (Held.room accM c); iexact H4
    · iapply (Held.room accM c); iexact H3
  · iapply (Held.room accM c); iexact H2

end Cert.Proof

end
-- ==== Proof.Payload.lean ====
module

public import proofs.«01_k».proof.Proof.Flow
public import Idealize.ShloMosaic.Lib.Pipeline.Value

/-!
# What the vector operations compute, element by element
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Pay
variable {S : Shape} (u v w : Vec F S .bf16) (j : S.Idx)

theorem add_cast (h : S.ShapeCasts S) : shapeCast S (addf (F := F) (φ := .bf16) u v) h j = plus (u j) (v j) := by
  rw [shapeCast_self]; rfl
theorem add_add_cast (h : S.ShapeCasts S) :
    shapeCast S (addf (F := F) (φ := .bf16) (addf (F := F) (φ := .bf16) u v) w) h j = plus (plus (u j) (v j)) (w j) := by
  rw [shapeCast_self]; rfl
end Pay

theorem pay4_at (v w : Vec F S512x768 .bf16) (j) : k0_pay4 v w j = plus (v j) (w j) := add_cast v w j _
theorem pay5_at (v w : Vec F S512x640 .bf16) (j) : k0_pay5 v w j = plus (v j) (w j) := add_cast v w j _
theorem pay6_at (v w : Vec F S512x640 .bf16) (j) : k0_pay6 v w j = plus (v j) (w j) := add_cast v w j _
theorem pay7_at (u v w : Vec F S512x768 .bf16) (j) : k0_pay7 u v w j = plus (plus (u j) (v j)) (w j) := add_add_cast u v w j _
theorem pay8_at (u v w : Vec F S512x640 .bf16) (j) : k0_pay8 u v w j = plus (plus (u j) (v j)) (w j) := add_add_cast u v w j _
theorem pay9_at (u v w : Vec F S512x640 .bf16) (j) : k0_pay9 u v w j = plus (plus (u j) (v j)) (w j) := add_add_cast u v w j _
theorem pay10_at (v w : Vec F S256x768 .bf16) (j) : k0_pay10 v w j = plus (v j) (w j) := add_cast v w j _
theorem pay11_at (v w : Vec F S256x640 .bf16) (j) : k0_pay11 v w j = plus (v j) (w j) := add_cast v w j _
theorem pay12_at (v w : Vec F S256x640 .bf16) (j) : k0_pay12 v w j = plus (v j) (w j) := add_cast v w j _
theorem pay13_at (v w : Vec F S128x768 .bf16) (j) : k0_pay13 v w j = clip (plus (v j) (w j)) := rfl
theorem pay14_at (v w : Vec F S128x640 .bf16) (j) : k0_pay14 v w j = clip (plus (v j) (w j)) := rfl
theorem pay15_at (v w : Vec F S128x640 .bf16) (j) : k0_pay15 v w j = clip (plus (v j) (w j)) := rfl

/-! ## The sums as the loads deliver their terms -/

section Sums
variable (s : Fin 3) (c : Dev nD) (i k : ℕ)

theorem sum1_at (a b : ℕ) : plus (part m s c (half s c + (1 - bit s 1 c) * 512 + (a - a) + i) k)
    (msg m (s, 0) (mate (s, 0) c) (brow (s, 0) c + (b - b) + i) k) = sum1 m s c (half s c + (1 - bit s 1 c) * 512 + i) k := by
  rw [Nat.sub_self, Nat.sub_self]; rfl
theorem sum2_at (a b d : ℕ) : plus (plus (part m s c (half s c + o1 s c + (a - a) + i) k)
    (msg m (s, 1) (mate (s, 1) c) (brow (s, 1) c + (b - b) + i) k)) (msg m (s, 2) (mate (s, 2) c) (brow (s, 2) c + (d - d) + i) k)
      = sum2 m s c (half s c + o1 s c + i) k := by
  rw [Nat.sub_self, Nat.sub_self, Nat.sub_self]; rfl
theorem sum3_at (a b : ℕ) : plus (sum2 m s c (half s c + o2 s c + (a - a) + i) k)
    (msg m (s, 3) (mate (s, 3) c) (brow (s, 3) c + (b - b) + i) k) = sum3 m s c (half s c + o2 s c + i) k := by
  rw [Nat.sub_self, Nat.sub_self]; rfl
theorem final_at (a b : ℕ) (hi : i < 128) : clip (plus (sum3 m s c (half s c + o3 s c + (a - a) + i) k)
    (msg m (s, 4) (mate (s, 4) c) (brow (s, 4) c + (b - b) + i) k)) = final m s (half s c + o3 s c + i) k := by
  unfold final
  rw [Nat.sub_self, Nat.sub_self, owner_row s c hi]; rfl
end Sums

theorem part0_at (c : Dev nD) (j : S2048x768.Idx) : k0_pay1 (xv m c) (fun j => wfun m c (0 + (0 - 0) + (j 0).val) (col 0 + (j 1).val)) j
    = part m 0 c (0 + (j 0).val) (col 0 + (j 1).val) := by
  show k0_pay1 (xv m c) _ j = k0_pay1 (xv m c) _ (mk2 (0 + (j 0).val) (0 + (j 1).val - 0))
  rw [mk2_eq (R := 2048) (C := 768) j (by omega) (by omega)]; rfl
theorem part1_at (c : Dev nD) (j : S2048x640.Idx) : k0_pay2 (xv m c) (fun j => wfun m c (0 + (0 - 0) + (j 0).val) (col 1 + (j 1).val)) j
    = part m 1 c (0 + (j 0).val) (col 1 + (j 1).val) := by
  show k0_pay2 (xv m c) _ j = k0_pay2 (xv m c) _ (mk2 (0 + (j 0).val) (768 + (j 1).val - 768))
  rw [mk2_eq (R := 2048) (C := 640) j (by omega) (by omega)]; rfl
theorem part2_at (c : Dev nD) (j : S2048x640.Idx) : k0_pay3 (xv m c) (fun j => wfun m c (0 + (0 - 0) + (j 0).val) (col 2 + (j 1).val)) j
    = part m 2 c (0 + (j 0).val) (col 2 + (j 1).val) := by
  show k0_pay3 (xv m c) _ j = k0_pay3 (xv m c) _ (mk2 (0 + (j 0).val) (1408 + (j 1).val - 1408))
  rw [mk2_eq (R := 2048) (C := 640) j (by omega) (by omega)]; rfl

end Cert.Proof

end
-- ==== Proof.Stream.lean ====
module

public import proofs.«01_k».proof.Proof.Payload

/-!
# The states of one column stream

The columns are cut into three streams that go through the same stages, at different times. `Str s i` is what a device has
of stream `s` after `i` stages. The lemmas after it are the stages: a send, an arrival, a load, a store.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The two operand blocks in their staging buffers. -/
def Ops (c : Dev nD) : sProp 𝕄 :=
  iprop((((c : Thread nD τ).loc cc0_stg0_0) ↦{fullShare} xv m c) ∗ Held wM c fullShare 0 128 0 2048 0 (wfun m c))

section States
variable (c : Dev nD) (s : Fin 3)

/-- The device's own two quarters of the product. -/
def Own : sProp 𝕄 := iprop(Pb m s c (half s c + o1 s c) ∗ Pb m s c (half s c + (1 - bit s 1 c) * 512))
/-- The place of the device's own finished rows. -/
def Place : sProp 𝕄 := Room outM c (half s c + o3 s c) 128 (col s) (wid s)
/-- The first three arrivals. -/
def Low2 : sProp 𝕄 := iprop(Land m (s, 2) c ∗ Land m (s, 1) c ∗ Land m (s, 0) c)
/-- What is left of the scatter. -/
def Scat : sProp 𝕄 := iprop(Acc s c (o3 s c) 128 (sum3 m s c) ∗ Own m c s ∗ Land m (s, 4) c ∗ Land m (s, 3) c ∗ Low2 m c s)
/-- What is kept of the result until the last arrivals. -/
def Kept3 : sProp 𝕄 :=
  iprop(Out m s c fullShare.left (half s c + (o2 s c + (1 - bit s 3 c) * 128)) 128
    ∗ Out m s c fullShare.left (half s c + (o1 s c + (1 - bit s 2 c) * 256)) 256
    ∗ Out m s c fullShare.right.left (half s c + (o1 s c + (1 - bit s 2 c) * 256)) 256)

/-- A stream after so many stages. -/
def Str : ℕ → sProp 𝕄
  | 0 => iprop(Room pbM c 0 2048 (col s) (wid s) ∗ Room accM c 0 1024 (col s) (wid s) ∗ Place c s)
  | 1 => iprop(Src m (s, 0) c ∗ Src m (s, 1) c ∗ Own m c s ∗ Room accM c 0 1024 (col s) (wid s) ∗ Place c s)
  | 2 => iprop(Src m (s, 1) c ∗ Own m c s ∗ Room accM c 0 1024 (col s) (wid s) ∗ Place c s)
  | 3 => iprop(Own m c s ∗ Room accM c 0 1024 (col s) (wid s) ∗ Place c s)
  | 4 => iprop(Land m (s, 0) c ∗ Own m c s ∗ Room accM c 0 1024 (col s) (wid s) ∗ Place c s)
  | 5 => iprop(Src m (s, 2) c ∗ Land m (s, 0) c ∗ Own m c s ∗ Room accM c (o1 s c) 512 (col s) (wid s) ∗ Place c s)
  | 6 => iprop(Land m (s, 0) c ∗ Own m c s ∗ Room accM c (o1 s c) 512 (col s) (wid s) ∗ Place c s)
  | 7 => iprop(Land m (s, 1) c ∗ Land m (s, 0) c ∗ Own m c s ∗ Room accM c (o1 s c) 512 (col s) (wid s) ∗ Place c s)
  | 8 => iprop(Land m (s, 2) c ∗ Land m (s, 1) c ∗ Land m (s, 0) c ∗ Own m c s ∗ Room accM c (o1 s c) 512 (col s) (wid s) ∗ Place c s)
  | 9 => iprop(Src m (s, 3) c ∗ Low2 m c s ∗ Acc s c (o2 s c) 256 (sum2 m s c) ∗ Own m c s ∗ Place c s)
  | 10 => iprop(Low2 m c s ∗ Acc s c (o2 s c) 256 (sum2 m s c) ∗ Own m c s ∗ Place c s)
  | 11 => iprop(Land m (s, 3) c ∗ Low2 m c s ∗ Acc s c (o2 s c) 256 (sum2 m s c) ∗ Own m c s ∗ Place c s)
  | 12 => iprop(Src m (s, 4) c ∗ Land m (s, 3) c ∗ Low2 m c s ∗ Acc s c (o3 s c) 128 (sum3 m s c) ∗ Own m c s ∗ Place c s)
  | 13 => iprop(Land m (s, 3) c ∗ Low2 m c s ∗ Acc s c (o3 s c) 128 (sum3 m s c) ∗ Own m c s ∗ Place c s)
  | 14 => iprop(Land m (s, 4) c ∗ Land m (s, 3) c ∗ Low2 m c s ∗ Acc s c (o3 s c) 128 (sum3 m s c) ∗ Own m c s ∗ Place c s)
  | 15 => iprop(Src m (s, 5) c ∗ Out m s c fullShare.right (half s c + o3 s c) 128 ∗ Scat m c s)
  | 16 => iprop(Out m s c fullShare.right (half s c + o3 s c) 128 ∗ Scat m c s)
  | 17 => iprop(Src m (s, 6) c ∗ Out m s c fullShare.right.right (half s c + o2 s c) 256
      ∗ Out m s c fullShare.left (half s c + (o2 s c + (1 - bit s 3 c) * 128)) 128 ∗ Scat m c s)
  | 18 => iprop(Out m s c fullShare.right.right (half s c + o2 s c) 256
      ∗ Out m s c fullShare.left (half s c + (o2 s c + (1 - bit s 3 c) * 128)) 128 ∗ Scat m c s)
  | 19 => iprop(Src m (s, 7) c ∗ Src m (s, 8) c ∗ Kept3 m c s ∗ Scat m c s)
  | 20 => iprop(Src m (s, 8) c ∗ Kept3 m c s ∗ Scat m c s)
  | 21 => iprop(Kept3 m c s ∗ Scat m c s)
  | 22 => iprop(Src m (s, 9) c ∗ Kept3 m c s ∗ Scat m c s)
  | 23 => iprop(Kept3 m c s ∗ Scat m c s)
  | 24 => iprop(Land m (s, 8) c ∗ Kept3 m c s ∗ Scat m c s)
  | _ => iprop(Land m (s, 9) c ∗ Land m (s, 8) c ∗ Kept3 m c s ∗ Scat m c s)

/-! ## What a load reads, and what a store fills -/

/-- `B` can be taken from `A` and put back. -/
def Look (A B : sProp 𝕄) : Prop := A ⊢ iprop(B ∗ (B -∗ A))

theorem Look.here {B : sProp 𝕄} : Look B B := by
  show B ⊢ _
  iintro HB
  isplitl [HB]; · iexact HB
  iintro HB; iexact HB
theorem Look.left {A B C : sProp 𝕄} (h : Look A B) : Look iprop(A ∗ C) B := by
  have h : A ⊢ iprop(B ∗ (B -∗ A)) := h
  show iprop(A ∗ C) ⊢ _
  iintro ⟨HA, HC⟩
  ihave HH := h $$ HA
  icases HH with ⟨HB, Hb⟩
  isplitl [HB]; · iexact HB
  iintro HB
  isplitr [HC]
  · iapply Hb; iexact HB
  · iexact HC
theorem Look.right {A B C : sProp 𝕄} (h : Look A B) : Look iprop(C ∗ A) B := by
  have h : A ⊢ iprop(B ∗ (B -∗ A)) := h
  show iprop(C ∗ A) ⊢ _
  iintro ⟨HC, HA⟩
  ihave HH := h $$ HA
  icases HH with ⟨HB, Hb⟩
  isplitl [HB]; · iexact HB
  iintro HB
  isplitl [HC]; · iexact HC
  iapply Hb; iexact HB

/-- `B` can be taken from `A`, and `B'` put in its place makes `A'`. -/
def Put (A B B' A' : sProp 𝕄) : Prop := A ⊢ iprop(B ∗ (B' -∗ A'))

theorem look_own1 : Look (Str m c s 8) (Pb m s c (half s c + o1 s c)) := .right (.right (.right (.left (.left .here))))
theorem look_own2 : Look (Str m c s 4) (Pb m s c (half s c + (1 - bit s 1 c) * 512)) := .right (.left (.right .here))
theorem look_land0 : Look (Str m c s 4) (Land m (s, 0) c) := .left .here
theorem look_land1 : Look (Str m c s 8) (Land m (s, 1) c) := .right (.left .here)
theorem look_land2 : Look (Str m c s 8) (Land m (s, 2) c) := .left .here
theorem look_land3 : Look (Str m c s 11) (Land m (s, 3) c) := .left .here
theorem look_land4 : Look (Str m c s 14) (Land m (s, 4) c) := .left .here
theorem look_sum2 : Look (Str m c s 11) (Acc s c (o2 s c) 256 (sum2 m s c)) := .right (.right (.left .here))
theorem look_sum3 : Look (Str m c s 14) (Acc s c (o3 s c) 128 (sum3 m s c)) := .right (.right (.right (.left .here)))
theorem look_acc1 : Look (Str m c s 4) (Room accM c 0 1024 (col s) (wid s)) := .right (.right (.left .here))
theorem look_acc2 : Look (Str m c s 8) (Room accM c (o1 s c) 512 (col s) (wid s)) := .right (.right (.right (.right (.left .here))))
theorem look_place : Look (Str m c s 14) (Room outM c (half s c + o3 s c) 128 (col s) (wid s)) := .right (.right (.right (.right (.right .here))))

theorem put_prod : Put (Str m c s 0) (Room pbM c 0 2048 (col s) (wid s)) (Held pbM c fullShare 0 2048 (col s) (wid s) 0 (part m s c)) (Str m c s 1) := by
  unfold Put
  simp only [Str]
  rw [pb_split]
  iintro ⟨Hp, HR⟩
  isplitl [Hp]; · iexact Hp
  iintro ⟨HO, H1, H0⟩
  isplitl [H0]; · iexact H0
  isplitl [H1]; · iexact H1
  isplitl [HO]; · unfold Own; iexact HO
  iexact HR

theorem put_sum1 : Put (Str m c s 4) (Room accM c ((1 - bit s 1 c) * 512) 512 (col s) (wid s)) (Src m (s, 2) c) (Str m c s 5) := by
  unfold Put
  simp only [Str]
  rw [acc_room s c]
  iintro ⟨HL, HO, ⟨HA, HB⟩, HP⟩
  isplitl [HB]; · iexact HB
  iintro H2
  isplitl [H2]; · iexact H2
  isplitl [HL]; · iexact HL
  isplitl [HO]; · iexact HO
  isplitl [HA] <;> iassumption

theorem put_sum2 : Put (Str m c s 8) (Room accM c (o1 s c) 512 (col s) (wid s)) (Acc s c (o1 s c) 512 (sum2 m s c)) (Str m c s 9) := by
  unfold Put
  simp only [Str]
  rw [acc_split2]
  unfold Low2
  iintro ⟨HL2, HL1, HL0, HO, HA, HP⟩
  isplitl [HA]; · iexact HA
  iintro ⟨HA, HS⟩
  isplitl [HS]; · rw [src3]; iexact HS
  isplitl [HL2 HL1 HL0]
  · isplitl [HL2]; · iexact HL2
    isplitl [HL1] <;> iassumption
  isplitl [HA]; · iexact HA
  isplitl [HO] <;> iassumption

theorem put_sum3 : Put (Str m c s 11) (Room accM c (o2 s c) 256 (col s) (wid s)) (Acc s c (o2 s c) 256 (sum3 m s c)) (Str m c s 12) := by
  unfold Put
  simp only [Str]
  rw [acc_split3 s c (sum3 m s c)]
  iintro ⟨HL3, HL, HA, HO, HP⟩
  isplitl [HA]; · unfold Acc; iapply (Held.room accM c); iexact HA
  iintro ⟨HA, HS⟩
  isplitl [HS]; · rw [src4]; iexact HS
  isplitl [HL3]; · iexact HL3
  isplitl [HL]; · iexact HL
  isplitl [HA]; · iexact HA
  isplitl [HO] <;> iassumption

theorem put_final : Put (Str m c s 14) (Room outM c (half s c + o3 s c) 128 (col s) (wid s)) (Out m s c fullShare (half s c + o3 s c) 128) (Str m c s 15) := by
  unfold Put
  simp only [Str]
  unfold Place Scat
  iintro ⟨HL4, HL3, HL, HA, HO, HP⟩
  isplitl [HP]; · iexact HP
  iintro H
  ihave H := (gather0 m s c) $$ H
  icases H with ⟨HS, HR⟩
  isplitl [HS]; · iexact HS
  isplitl [HR]; · iexact HR
  isplitl [HA]; · iexact HA
  isplitl [HO]; · iexact HO
  isplitl [HL4]; · iexact HL4
  isplitl [HL3] <;> iassumption

/-! ## Arrivals -/

theorem arrive5 : iprop(Land m (s, 5) c ∗ Str m c s 16) ⊢ Str m c s 17 := by
  simp only [Str]
  iintro ⟨HL, HR, HS⟩
  ihave H := (gather1 m s c) $$ [HL HR]
  · isplitl [HL] <;> iassumption
  icases H with ⟨H1, H2, H3⟩
  isplitl [H1]; · iexact H1
  isplitl [H2]; · iexact H2
  isplitl [H3] <;> iassumption

theorem arrive6 : iprop(Land m (s, 6) c ∗ Str m c s 18) ⊢ Str m c s 19 := by
  simp only [Str]
  unfold Kept3
  iintro ⟨HL, HR, HK, HS⟩
  ihave H := (gather2 m s c) $$ [HL HR]
  · isplitl [HL] <;> iassumption
  icases H with ⟨H1, H2, H3, H4⟩
  isplitl [H1]; · iexact H1
  isplitl [H2]; · iexact H2
  isplitr [HS]
  · isplitl [HK]; · iexact HK
    isplitl [H3] <;> iassumption
  · iexact HS

end States

/-! ## The operations -/

section Ops
variable {R : ℕ} (mm : Memref sig .tc .vmem (Mat R) .bf16) (c : Dev nD) {off size : Fin 2 → ℕ} {inb : ∀ a, off a + size a ≤ (Mat R).size a}

theorem wp_look {α : Type} {A : sProp 𝕄} {Q : α → sProp 𝕄} {q : PosShare TreeShare} {r n k w a : ℕ} {g : ℕ → ℕ → Elt F .bf16} {ro ko : ℕ}
    {hl : mm.view.LoadsAt (Rect.unit (s := Mat R) off size inb).toLoadRect}
    {K : ((Rect.unit (s := Mat R) off size inb).toLoadRect.shape.Idx → Elt F .bf16) → Prog (TpuEff nD τ sig (Elt F) Λ₀ .tc) α}
    (hA : Look A (Held mm c q r n k w a g))
    (ho : off = ![ro, ko]) (h : r ≤ ro ∧ ro + size 0 ≤ r + n ∧ k ≤ ko ∧ ko + size 1 ≤ k + w) :
    A ⊢ iprop((A -∗ wp frame (wpE (defs₀ (F := F)) 𝒱₀ (c : Thread nD τ) none) Set.univ
                (K fun j => g (a + (ro - r) + (j 0).val) (ko + (j 1).val)) Q)
          -∗ wp frame (wpE (defs₀ (F := F)) 𝒱₀ (c : Thread nD τ) none) Set.univ
              (.op (.load mm (Rect.unit (s := Mat R) off size inb).toLoadRect hl) K) Q) := by
  have hA : A ⊢ iprop(Held mm c q r n k w a g ∗ (Held mm c q r n k w a g -∗ A)) := hA
  iintro HA Hk
  ihave HH := hA $$ HA
  icases HH with ⟨HB, Hb⟩
  iapply (wp_ld mm c ho h) $$ HB
  iintro HB
  iapply Hk
  iapply Hb; iexact HB

theorem wp_glance {α : Type} {A : sProp 𝕄} {Q : α → sProp 𝕄} {r n k w : ℕ} {ro ko : ℕ}
    {hl : mm.view.LoadsAt (Rect.unit (s := Mat R) off size inb).toLoadRect}
    {K : ((Rect.unit (s := Mat R) off size inb).toLoadRect.shape.Idx → Elt F .bf16) → Prog (TpuEff nD τ sig (Elt F) Λ₀ .tc) α}
    (hA : Look A (Room mm c r n k w))
    (ho : off = ![ro, ko]) (h : r ≤ ro ∧ ro + size 0 ≤ r + n ∧ k ≤ ko ∧ ko + size 1 ≤ k + w) :
    A ⊢ iprop((∀ v, A -∗ wp frame (wpE (defs₀ (F := F)) 𝒱₀ (c : Thread nD τ) none) Set.univ (K v) Q)
          -∗ wp frame (wpE (defs₀ (F := F)) 𝒱₀ (c : Thread nD τ) none) Set.univ
              (.op (.load mm (Rect.unit (s := Mat R) off size inb).toLoadRect hl) K) Q) := by
  have hA : A ⊢ iprop(Room mm c r n k w ∗ (Room mm c r n k w -∗ A)) := hA
  iintro HA Hk
  ihave HH := hA $$ HA
  icases HH with ⟨HB, Hb⟩
  iapply (wp_ld_any mm c ho h) $$ HB
  iintro %v HB
  iapply Hk
  iapply Hb; iexact HB

theorem wp_put {α : Type} {A A' : sProp 𝕄} {Q : α → sProp 𝕄} {r n k w a : ℕ} {g : ℕ → ℕ → Elt F .bf16} {v : (Rect.unit (s := Mat R) off size inb).shape.Idx → Elt F .bf16}
    {hx : (mm.access (Rect.unit (s := Mat R) off size inb)).Stores Finset.univ} {hm}
    {K : PUnit → Prog (TpuEff nD τ sig (Elt F) Λ₀ .tc) α}
    (hA : Put A (Room mm c r n k w) (Held mm c fullShare r n k w a g) A')
    (ho : off = ![r, k]) (hs : size = ![n, w])
    (hv : ∀ j : (Rect.unit (s := Mat R) off size inb).shape.Idx, v j = g (a + (j 0).val) (k + (j 1).val)) :
    A ⊢ iprop((A' -∗ wp frame (wpE (defs₀ (F := F)) 𝒱₀ (c : Thread nD τ) none) Set.univ (K ⟨⟩) Q)
          -∗ wp frame (wpE (defs₀ (F := F)) 𝒱₀ (c : Thread nD τ) none) Set.univ
              (.op (.store mm (Rect.unit (s := Mat R) off size inb) v Finset.univ hx hm) K) Q) := by
  have hA : A ⊢ iprop(Room mm c r n k w ∗ (Held mm c fullShare r n k w a g -∗ A')) := hA
  iintro HA Hk
  ihave HH := hA $$ HA
  icases HH with ⟨HB, Hb⟩
  iapply (wp_st mm c ho hs hv) $$ HB
  iintro HB
  iapply Hk
  iapply Hb; iexact HB
end Ops

section Sends
variable {R R' : ℕ} {offs offd sz : Fin 2 → ℕ} {inbs : ∀ a, offs a + sz a ≤ (Mat R).size a} {inbd : ∀ a, offd a + sz a ≤ (Mat R').size a}

/-- A stream's next stage is a send. -/
theorem wp_go {α : Type} {Q : α → sProp 𝕄} (c : Dev nD) (n k : ℕ) (x : Lb) (i : ℕ) {d : Dev nD} {ms : Memref sig .tc .vmem (Mat R) .bf16}
    {md : Memref sig .tc .vmem (Mat R') .bf16} {hs₁ hd₁} {sS sR : DmaSem sig}
    {hsc : (md.slice (Rect.unit (s := Mat R') offd sz inbd) hd₁ : Memref sig (Dev.tc d : Thread nD τ).2.kind .vmem (Rect.unit (s := Mat R') offd sz inbd).shape .bf16).view.ref.isScScratch = false}
    {hsrc : (ms.slice (Rect.unit (s := Mat R) offs sz inbs) hs₁).view.WordExact}
    {hdst : (md.slice (Rect.unit (s := Mat R') offd sz inbd) hd₁).view.WordExact}
    {hsem : DmaTarget.Typed .vmem (.dma sR) (.remote (Dev.tc d : Thread nD τ) (md.slice (Rect.unit (s := Mat R') offd sz inbd) hd₁ : Memref sig (Dev.tc d : Thread nD τ).2.kind .vmem (Rect.unit (s := Mat R') offd sz inbd).shape .bf16) (.dma sS) hsc)}
    {K : PUnit → Prog (TpuEff nD τ sig (Elt F) Λ₀ .tc) α}
    (hi : Str m c x.1 i = iprop(Src m x c ∗ Str m c x.1 (i + 1)))
    (hn : sends.drop n = x :: sends.drop (n + 1)) (hn' : sends.take (n + 1) = sends.take n ++ [x])
    (hd : d = mate x c) (hos : offs = ![srow x c, col x.1]) (hod : offd = ![drow x (mate x c), col x.1]) (hsz : sz = ![rows x.2, wid x.1])
    (hsS : sS = semOf x false) (hsR : sR = semOf x true)
    (hN : (md.slice (Rect.unit (s := Mat R') offd sz inbd) hd₁).view.dmaCredit = amt x)
    (hS : Src m x c = Held ms c (qs x.2) (srow x c) (rows x.2) (col x.1) (wid x.1) (arow x c) (msg m x c))
    (hF : Free (F := F) x (mate x c) = Room md (mate x c) (drow x (mate x c)) (rows x.2) (col x.1) (wid x.1))
    (hL : Land m x (mate x c) = Held md (mate x c) fullShare (drow x (mate x c)) (rows x.2) (col x.1) (wid x.1) (brow x (mate x c)) (msg m x (mate x (mate x c)))) :
    Str m c x.1 i
      ⊢ iprop(Run m n k c -∗ (Str m c x.1 (i + 1) -∗ Run m (n + 1) k c
            -∗ wp frame (wpE (defs₀ (F := F)) 𝒱₀ (c : Thread nD τ) none) Set.univ (K ⟨⟩) Q)
          -∗ wp frame (wpE (defs₀ (F := F)) 𝒱₀ (c : Thread nD τ) none) Set.univ
              (.op (.enqueueDma (ms.slice (Rect.unit (s := Mat R) offs sz inbs) hs₁)
                (.remote (Dev.tc d : Thread nD τ) (md.slice (Rect.unit (s := Mat R') offd sz inbd) hd₁) (.dma sS) hsc) (.dma sR) hsrc hdst hsem) K) Q) := by
  rw [hi]
  iintro ⟨HS, HT⟩ HR Hk
  iapply (wp_snd m c d n k x hn hn' hd hos hod hsz hsS hsR hN hS hF hL) $$ [HS HR]
  · isplitl [HS] <;> iassumption
  iintro HR
  iapply Hk $$ HT HR

/-- A stream's next stage is an arrival. -/
theorem wp_come {α : Type} {Q : α → sProp 𝕄} (c : Dev nD) (n k : ℕ) (x : Lb) (i : ℕ) {s : Shape} {src : Memref sig .tc .vmem s .bf16} {s' : Shape}
    {dst : Memref sig .tc .vmem s' .bf16} {sR : DmaSem sig} {hsrc : src.view.WordExact} {hdst : dst.view.WordExact}
    {K : PUnit → Prog (TpuEff nD τ sig (Elt F) Λ₀ .tc) α}
    (hi : iprop(Land m x c ∗ Str m c x.1 i) ⊢ Str m c x.1 (i + 1))
    (hk : waits.drop k = x :: waits.drop (k + 1)) (hk' : waits.take (k + 1) = waits.take k ++ [x])
    (hlev : ∀ o ∈ sends.drop n, lvt x.2 < lvt o.2) (hsR : sR = semOf x true) (hN : dst.view.dmaCredit = amt x) :
    Str m c x.1 i
      ⊢ iprop(Run m n k c -∗ (Str m c x.1 (i + 1) -∗ Run m n (k + 1) c
            -∗ wp frame (wpE (defs₀ (F := F)) 𝒱₀ (c : Thread nD τ) none) Set.univ (K ⟨⟩) Q)
          -∗ wp frame (wpE (defs₀ (F := F)) 𝒱₀ (c : Thread nD τ) none) Set.univ (.op (.waitDma2 sR src dst hsrc hdst) K) Q) := by
  iintro HT HR Hk
  iapply (wp_rcv m c n k x hk hk' hlev hsR hN) $$ HR
  iintro ⟨HL, HR⟩
  iapply Hk $$ [HL HT] HR
  iapply hi
  isplitl [HL] <;> iassumption
end Sends

/-- The printed pieces of the program, on the buffers and semaphores of this kernel. -/
abbrev onBufs.{u} {β : Type u} (f : (arg0 : Memref sig .tc .vmem S2048x128 .bf16) → arg0.IsWhole → (arg1 : Memref sig .tc .vmem S128x2048 .bf16) → arg1.IsWhole →
    (arg2 : Memref sig .tc .vmem S2048x2048 .bf16) → arg2.IsWhole → (arg3 : Memref sig .tc .vmem S2048x2048 .bf16) → arg3.IsWhole →
    (arg4 : Memref sig .tc .vmem S1024x2048 .bf16) → arg4.IsWhole → (arg5 : Memref sig .tc .vmem S1920x2048 .bf16) → arg5.IsWhole →
    DmaSems sig S3x4 → DmaSems sig S3x4 → DmaSems sig S3x4 → DmaSems sig S3x4 → DmaSems sig S3 → DmaSems sig S3 → DmaSems sig S3 → DmaSems sig S3 → β) : β :=
  f xM (Memref.isWhole_whole _) wM (Memref.isWhole_whole _) outM (Memref.isWhole_whole _) pbM (Memref.isWhole_whole _)
    accM (Memref.isWhole_whole _) rcvM (Memref.isWhole_whole _) cc0_scratch3 cc0_scratch4 cc0_scratch5 cc0_scratch6
    cc0_scratch7 cc0_scratch8 cc0_scratch9 cc0_scratch10

/-- The weakest precondition of a piece on device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

end Cert.Proof

end
-- ==== Proof.Handshake.lean ====
module

public import proofs.«01_k».proof.Proof.Stream

/-!
# The handshake

Before the first send a device signals its four peers and waits for their four signals. With its signal it gives the peer
the room for what the peer will send.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- For a send to come, before the handshake: what `Tok` has but the room at the receiver. -/
def Tok0 (x : Lb) : sProp 𝕄 :=
  iprop(dutyTok ER (sndCell x c) 0 (0 : Fin 4) ∗ dutyTok ER (rcvCell x (mate x c)) 0 (0 : Fin 4) ∗ atPos ER (sndCell x c) 0 ∅ 0)

/-- The room a device gives to its peer across mask `i`: of the transfers that cross this mask. -/
def Give (i : Fin 4) (d : Dev nD) : sProp 𝕄 := bigSep (Finset.univ.filter fun x : Lb => gstage x = i) fun x => Free x d

/-- A device at its start: what it owes, its place at the barrier with the credit for four, the rights to signal its four
    peers, the room for all arrivals, and what it needs for its sends and waits. -/
def Init : sProp 𝕄 :=
  iprop(Recs m ∗ Owing c obl ∗ atPos ER (barCell c) 0 ∅ 0 ∗ cred (tallyAt (barCell c) () 4)
    ∗ (bigSep Finset.univ fun i : Fin 4 => dutyTok ER (barCell (gpeer i c)) 0 i)
    ∗ (bigSep Finset.univ fun x : Lb => Free x c) ∗ (bigSep Finset.univ fun x : Lb => Tok0 c x) ∗ bigSep Finset.univ fun x : Lb => Exp c x)

theorem by_stage (Φ : Lb → sProp 𝕄) :
    bigSep Finset.univ Φ = bigSep Finset.univ fun i : Fin 4 => bigSep (Finset.univ.filter fun x : Lb => gstage x = i) Φ := by
  rw [bigSep_fiberwise Finset.univ gstage Φ, show (Finset.univ : Finset Lb).image gstage = Finset.univ from by decide +kernel]

theorem peers_all : ([0, 1, 2, 3] : List (Fin 4)).Nodup ∧ ∀ i : Fin 4, i ∈ ([0, 1, 2, 3] : List (Fin 4)) := by decide

/-- The signal across mask `i` gives the peer the room of its sends. -/
theorem wp_tell {α : Type} {Q : α → sProp 𝕄} (i : Fin 4) (l : List Ow) {d : Dev nD} (hd : d = gpeer i c) {k : ℤ} (hk : k = 1)
    {K : PUnit → Prog (TpuEff nD τ sig (Elt F) Λ₀ .tc) α} :
    iprop(Recs m ∗ Owing c (.inl i :: l) ∗ dutyTok ER (barCell (gpeer i c)) 0 i ∗ Give i c)
      ⊢ iprop((Owing c l -∗ Wp c (K ⟨⟩) Q) -∗ Wp c (.op (.semSignal ((d, .tc) : Thread nD τ) barS k) K) Q) := by
  subst hd hk
  unfold Recs Owing
  iintro ⟨⟨%κ, #HI, #HR, #Hlev⟩, ⟨%W, HO⟩, Ht, Hg⟩ Hk
  iapply (Rounds.wp_signal 𝒱₀ ER (Rd m) (c : Thread nD τ) none (dst := (gpeer i c : Thread nD τ)) (κ := κ (gpeer i c, none))
      (d := i) (r := 0) (by rw [duties_bar]; exact Finset.mem_univ _) (amount_bar m (gpeer i c) i) () (owe c l) (owe_cons c (.inl i) l) (W := W)) $$ [HO Ht Hg]
  · isplitr; · iapply (inv_at m κ (gpeer i c, none)); iexact HI
    isplitl [HO]; · iexact HO
    isplitl [Ht]; · iexact Ht
    isplitl [Hg]
    · rw [payload_bar, gpeer_gpeer]; unfold Give; iexact Hg
    iapply (reached_at (F := F) (gpeer i c, none)); iexact HR
  iintro HO
  iapply Hk
  iexists W; iexact HO

/-- The wait for the four signals brings the room at the receivers of all sends. -/
theorem wp_hear {α : Type} {Q : α → sProp 𝕄} {k : ℤ} (hk : k = 4) {K : PUnit → Prog (TpuEff nD τ sig (Elt F) Λ₀ .tc) α} :
    iprop(Recs m ∗ Owing c (sends.map .inr) ∗ atPos ER (barCell c) 0 ∅ 0 ∗ cred (tallyAt (barCell c) () 4))
      ⊢ iprop((iprop(Owing c (sends.map .inr) ∗ semVal (barCell c) 0 ∗ bigSep Finset.univ fun x : Lb => Free x (mate x c)) -∗ Wp c (K ⟨⟩) Q)
          -∗ Wp c (.op (.semWait barS k) K) Q) := by
  subst hk
  have hfree : (bigSep Finset.univ fun d : Fin 4 => bigSep (Finset.univ.filter fun x : Lb => gstage x = d) fun x => (Free x (gpeer d c) : sProp 𝕄))
      = bigSep Finset.univ fun x : Lb => Free x (mate x c) := by
    rw [by_stage fun x => Free x (mate x c)]
    refine bigSep_congr fun d _ => bigSep_congr fun x hx => ?_
    rw [← (Finset.mem_filter.mp hx).2, gpeer_gstage]
  have hlev : ∀ y ∈ sends, 1 < owLev (.inr y) := by decide +kernel
  unfold Recs Owing
  iintro ⟨⟨%κ, #HI, #HR, #Hlev⟩, ⟨%W, HO⟩, Hat, Hc⟩ Hk
  iapply (Rounds.wp_wait_rest_token 𝒱₀ ER (Rd m) (c : Thread nD τ) none (κ := κ (c, none))
      (wpE_semWait_eq 𝒱₀ (c : Thread nD τ) none Set.univ) (Set.mem_univ _) () (O := owe c (sends.map .inr)) (W := W) (R := 0) (m := 0) (T := ∅)
      (by rw [expect_bar])) $$ [Hc HO Hat]
  · isplitr; · iapply (inv_at m κ (c, none)); iexact HI
    isplitl [Hc]; · iexact Hc
    isplitl [HO]; · iexact HO
    isplitr
    · iapply (mayWait (F := F) c (.reg barS) 1 _ (le_of_eq (lv_bar c)) (by
        intro o ho
        obtain ⟨y, hy, rfl⟩ := List.mem_map.mp ho
        exact hlev y hy)); iexact Hlev
    iexact Hat
  iintro ⟨HO, Hat, -, Hpay⟩
  ihave Hp := (Entails.of_eq ((rest_bar m c).trans hfree)) $$ Hpay
  imod (Rounds.cell_close ER (Rd m) (Set.mem_univ (κ (c, none))) (fun h => h) (R := 0 + 1) (duties_later m (barCell c))) $$ [Hat] with Hz
  · isplitr; · iapply (inv_at m κ (c, none)); iexact HI
    iexact Hat
  iapply Hk
  isplitl [HO]; · iexists _; iexact HO
  isplitl [Hz] <;> iassumption

/-- With the rooms of the receivers everything is there for the first send. -/
theorem run_start : iprop(Recs m ∗ Owing c (sends.map .inr) ∗ (bigSep Finset.univ fun x : Lb => Tok0 c x) ∗ (bigSep Finset.univ fun x : Lb => Free x (mate x c))
      ∗ bigSep Finset.univ fun x : Lb => Exp c x) ⊢ Run (F := F) m 0 0 c := by
  have h : iprop((bigSep Finset.univ fun x : Lb => (Tok0 c x : sProp 𝕄)) ∗ (bigSep Finset.univ fun x : Lb => Free x (mate x c)))
      ⊢ bigSep Finset.univ fun x : Lb => Tok c x := by
    rw [← bigSep_sep']
    have hx : ∀ x : Lb, iprop(Tok0 c x ∗ Free x (mate x c)) ⊢ (Tok c x : sProp 𝕄) := fun x => by
      unfold Tok0 Tok
      iintro ⟨⟨H1, H2, H3⟩, H4⟩
      isplitl [H1]; · iexact H1
      isplitl [H2]; · iexact H2
      isplitl [H3] <;> iassumption
    exact bigSep_mono fun x _ => hx x
  unfold Run
  rw [show sends.drop 0 = sends from rfl, show sends.take 0 = [] from rfl, show waits.drop 0 = waits from rfl, show waits.take 0 = [] from rfl,
    sepL_univ _ sends_all, sepL_univ _ waits_all]
  iintro ⟨HR, HO, HT, HF, HE⟩
  ihave HT := h $$ [HT HF]
  · isplitl [HT] <;> iassumption
  isplitl [HR]; · iexact HR
  isplitl [HO]; · iexact HO
  isplitl [HT]; · iexact HT
  isplitr; · iapply (Entails.of_eq (show (iprop(emp) : sProp 𝕄) = sepL [] (Sent c) from rfl)); iempintro
  isplitl [HE]; · iexact HE
  iapply (Entails.of_eq (show (iprop(emp) : sProp 𝕄) = sepL [] (RZero c) from rfl)); iempintro

/-- The handshake. -/
theorem part1 (Q : _ → sProp 𝕄) :
    Init m c ⊢ iprop((∀ r r' r'' r''', Run m 0 0 c -∗ semVal (barCell c) 0 -∗ Q ⟨c, r, r', r'', r'''⟩) -∗ Wp c (onBufs (k0_part1 (F := F))) Q) := by
  simp only [onBufs, k0_part1_eq_skeleton]; unfold k0_part1_skel
  simp only [semSignalWord, semWaitWord, Prog.lift, Prog.bind_op, Prog.bind_ret, Prog.pure_eq_ret, wp_deviceId]
  unfold Init obl
  rw [by_stage fun x => Free x c, ← sepL_univ _ peers_all, ← sepL_univ _ peers_all]
  simp only [sepL_cons]
  iintro ⟨#HR, HO, Hat, Hc, ⟨Ht0, Ht1, Ht2, Ht3, -⟩, ⟨Hf0, Hf1, Hf2, Hf3, -⟩, HT, HE⟩ Hk
  iapply (wp_tell m c 0 _ (dev1_eq c) (by decide)) $$ [HO Ht0 Hf0]
  · isplitr; · iexact HR
    isplitl [HO]; · iexact HO
    isplitl [Ht0]; · iexact Ht0
    unfold Give; iexact Hf0
  iintro HO
  iapply (wp_tell m c 1 _ (dev2_eq c) (by decide)) $$ [HO Ht1 Hf1]
  · isplitr; · iexact HR
    isplitl [HO]; · iexact HO
    isplitl [Ht1]; · iexact Ht1
    unfold Give; iexact Hf1
  iintro HO
  iapply (wp_tell m c 2 _ (dev3_eq c) (by decide)) $$ [HO Ht2 Hf2]
  · isplitr; · iexact HR
    isplitl [HO]; · iexact HO
    isplitl [Ht2]; · iexact Ht2
    unfold Give; iexact Hf2
  iintro HO
  iapply (wp_tell m c 3 (sends.map .inr) (dev4_eq c) (by decide)) $$ [HO Ht3 Hf3]
  · isplitr; · iexact HR
    isplitl [HO]; · iexact HO
    isplitl [Ht3]; · iexact Ht3
    unfold Give; iexact Hf3
  iintro HO
  iapply (wp_hear m c (by decide)) $$ [HO Hat Hc]
  · isplitr; · iexact HR
    isplitl [HO]; · iexact HO
    isplitl [Hat] <;> iassumption
  iintro ⟨HO, Hz, HF⟩
  unfold Wp; rw [wp_ret]; imodintro
  iapply Hk $$ [HO HT HF HE] Hz
  iapply (run_start m c)
  isplitr; · iexact HR
  isplitl [HO]; · iexact HO
  isplitl [HT]; · iexact HT
  isplitl [HF] <;> iassumption

end Cert.Proof

end
-- ==== Proof.ShrinkA.lean ====
module

public import proofs.«01_k».proof.Proof.Stream

/-!
# The pieces of the program: the products and the first sums
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem wp_ldx {α : Type} {Q : α → sProp 𝕄} {inb : ∀ a, (![0, 0] : Fin 2 → ℕ) a + S2048x128.size a ≤ S2048x128.size a}
    {hl : (xM : Memref sig .tc .vmem S2048x128 .bf16).view.LoadsAt (Rect.unit (s := S2048x128) ![0, 0] S2048x128.size inb).toLoadRect}
    {K : ((Rect.unit (s := S2048x128) ![0, 0] S2048x128.size inb).toLoadRect.shape.Idx → Elt F .bf16) → Prog (TpuEff nD τ sig (Elt F) Λ₀ .tc) α} :
    (((c : Thread nD τ).loc cc0_stg0_0) ↦{fullShare} xv m c : sProp 𝕄)
      ⊢ iprop(((((c : Thread nD τ).loc cc0_stg0_0) ↦{fullShare} xv m c)
            -∗ wp frame (wpE (defs₀ (F := F)) 𝒱₀ (c : Thread nD τ) none) Set.univ (K (xv m c)) Q)
          -∗ wp frame (wpE (defs₀ (F := F)) 𝒱₀ (c : Thread nD τ) none) Set.univ
              (.op (.load xM (Rect.unit (s := S2048x128) ![0, 0] S2048x128.size inb).toLoadRect hl) K) Q) := by
  have hz : (![0, 0] : Fin 2 → Nat) = fun _ => 0 := funext fun a => by fin_cases a <;> rfl
  have hr : (xM : Memref sig .tc .vmem S2048x128 .bf16).view.readAt (Elt F) (Rect.unit (s := S2048x128) ![0, 0] S2048x128.size inb).toLoadRect (xv m c) = xv m c :=
    Memref.readAt_unit_zero (Elt F) cc0_stg0_0 hz _ _
  iintro H Hk
  iapply (wp_load 𝒱₀ (c : Thread nD τ) none Set.univ (m := xM) (Finset.subset_univ _)) $$ H
  rw [hr]
  iexact Hk

theorem look_prod (s : Fin 3) : Look (Str m c s 0) (Room pbM c 0 2048 (col s) (wid s)) := .left .here

/-- Between equal devices a gather's rows are the same on both sides. -/
theorem to_mate {x : Lb} (c : Dev nD) {off : Fin 2 → ℕ} {k : ℕ} (h : off = ![srow x c, k]) (hx : 5 ≤ x.2) : off = ![drow x (mate x c), k] := by
  rw [h, srow_mate x c hx]

theorem acc1_in (s : Fin 3) {size : Fin 2 → ℕ} (h₀ : size 0 = 512) (h₁ : size 1 = wid s) :
    0 ≤ srow (s, 2) c ∧ srow (s, 2) c + size 0 ≤ 0 + 1024 ∧ col s ≤ col s ∧ col s + size 1 ≤ col s + wid s := by
  have h : srow (s, 2) c = (1 - bit s 1 c) * 512 := rfl
  rw [h₀, h₁, h]
  rcases bit_lt s 1 c with h | h <;> rw [h] <;> exact ⟨Nat.zero_le _, by decide, le_rfl, le_rfl⟩

/-- The first sum of the first stream, as it is passed on between two pieces of the program; -/
abbrev got1 : FVec F S512x768 .bf16 :=
  k0_pay4 (fun j => part m 0 c (half 0 c + (1 - bit 0 1 c) * 512 + (half 0 c + (1 - bit 0 1 c) * 512 - (half 0 c + (1 - bit 0 1 c) * 512)) + (j 0).val) (col 0 + (j 1).val))
    (fun j => msg m (0, 0) (mate (0, 0) c) (brow (0, 0) c + (drow (0, 0) c - drow (0, 0) c) + (j 0).val) (col 0 + (j 1).val))
/-- the product's rows for its second sum. -/
abbrev got2 : Vec F S512x768 .bf16 :=
  fun (j : (Rect.unit (s := S2048x2048) (k0_off29 c) S512x768.size (k0_off29_inb c)).toLoadRect.shape.Idx) =>
    part m 0 c (half 0 c + o1 0 c + (half 0 c + o1 0 c - (half 0 c + o1 0 c)) + (j 0).val) (col 0 + (j 1).val)

theorem part5 (Q : _ → sProp 𝕄) (v2 v23 v55 : BitVec 32) :
    Ops m c ⊢ iprop(Str m c 0 0 -∗ Run m 0 0 c -∗ (Ops m c -∗ Str m c 0 2 -∗ Run m 1 0 c -∗ Q ⟨⟩) -∗ Wp c (onBufs (k0_part5 (F := F)) c v2 v23 v55) Q) := by
  simp only [onBufs, k0_part5_eq_skeleton]; unfold k0_part5_skel
  simp only [Prog.lift, Prog.bind_op, Prog.bind_ret, Prog.pure_eq_ret]
  iintro HO H0 HR Hk
  unfold Ops; icases HO with ⟨HX, HW⟩
  iapply (wp_ldx m c) $$ HX; iintro HX
  iapply (wp_ld wM c (ro := 0) (ko := col 0) rfl (by decide)) $$ HW; iintro HW
  iapply (wp_glance pbM c (look_prod m c 0) (ro := 0) (ko := col 0) rfl (by decide)) $$ H0; iintro %v H0
  iapply (wp_put pbM c (put_prod m c 0) rfl rfl (part0_at m c)) $$ H0; iintro H0
  iapply (wp_go m c 0 0 (0, 0) 1 rfl rfl rfl (dev5_eq c) (off2_eq c) (off1_eq c) rfl rfl rfl rfl rfl rfl rfl) $$ H0 HR; iintro H0 HR
  rw [wp_ret]; imodintro
  iapply Hk $$ [HX HW] H0 HR
  isplitl [HX] <;> iassumption

theorem part6 (Q : _ → sProp 𝕄) (v2 v63 v95 : BitVec 32) :
    Ops m c ⊢ iprop(Str m c 0 2 -∗ Str m c 1 0 -∗ Run m 1 0 c -∗ (∀ r, Ops m c -∗ Str m c 0 3 -∗ Str m c 1 2 -∗ Run m 3 0 c -∗ Q r) -∗ Wp c (onBufs (k0_part6 (F := F)) c v2 v63 v95) Q) := by
  simp only [onBufs, k0_part6_eq_skeleton]; unfold k0_part6_skel
  simp only [Prog.lift, Prog.bind_op, Prog.bind_ret, Prog.pure_eq_ret]
  iintro HO H0 H1 HR Hk
  unfold Ops; icases HO with ⟨HX, HW⟩
  iapply (wp_go m c 1 0 (0, 1) 2 rfl rfl rfl (dev6_eq c) (off4_eq c) (off3_eq c) rfl rfl rfl rfl rfl rfl rfl) $$ H0 HR; iintro H0 HR
  iapply (wp_ldx m c) $$ HX; iintro HX
  iapply (wp_ld wM c (ro := 0) (ko := col 1) rfl (by decide)) $$ HW; iintro HW
  iapply (wp_glance pbM c (look_prod m c 1) (ro := 0) (ko := col 1) rfl (by decide)) $$ H1; iintro %v H1
  iapply (wp_put pbM c (put_prod m c 1) rfl rfl (part1_at m c)) $$ H1; iintro H1
  iapply (wp_go m c 2 0 (1, 0) 1 rfl rfl rfl (dev7_eq c) (off6_eq c) (off5_eq c) rfl rfl rfl rfl rfl rfl rfl) $$ H1 HR; iintro H1 HR
  rw [wp_ret]; imodintro
  iapply Hk $$ [HX HW] H0 H1 HR
  isplitl [HX] <;> iassumption

theorem part7 (Q : _ → sProp 𝕄) (v2 v103 v135 v171 : BitVec 32) :
    Ops m c ⊢ iprop(Str m c 1 2 -∗ Str m c 2 0 -∗ Run m 3 0 c -∗ (∀ r r' r'', Ops m c -∗ Str m c 1 3 -∗ Str m c 2 1 -∗ Run m 4 0 c -∗ Q ⟨r, r', r''⟩) -∗ Wp c (onBufs (k0_part7 (F := F)) c v2 v103 v135 v171) Q) := by
  simp only [onBufs, k0_part7_eq_skeleton]; unfold k0_part7_skel
  simp only [Prog.lift, Prog.bind_op, Prog.bind_ret, Prog.pure_eq_ret]
  iintro HO H1 H2 HR Hk
  unfold Ops; icases HO with ⟨HX, HW⟩
  iapply (wp_go m c 3 0 (1, 1) 2 rfl rfl rfl (dev8_eq c) (off8_eq c) (off7_eq c) rfl rfl rfl rfl rfl rfl rfl) $$ H1 HR; iintro H1 HR
  iapply (wp_ldx m c) $$ HX; iintro HX
  iapply (wp_ld wM c (ro := 0) (ko := col 2) rfl (by decide)) $$ HW; iintro HW
  iapply (wp_glance pbM c (look_prod m c 2) (ro := 0) (ko := col 2) rfl (by decide)) $$ H2; iintro %v H2
  iapply (wp_put pbM c (put_prod m c 2) rfl rfl (part2_at m c)) $$ H2; iintro H2
  rw [wp_ret]; imodintro
  iapply Hk $$ [HX HW] H1 H2 HR
  isplitl [HX] <;> iassumption

theorem part8 (Q : _ → sProp 𝕄) (v2 v31 v48 v206 v217 v220 : BitVec 32) :
    Str m c 0 3 ⊢ iprop(Str m c 2 1 -∗ Run m 4 0 c -∗ (∀ r, Str m c 0 4 -∗ Str m c 2 3 -∗ Run m 6 1 c -∗ Q ⟨r, got1 m c⟩) -∗ Wp c (onBufs (k0_part8 (F := F)) c v2 v31 v48 v206 v217 v220) Q) := by
  simp only [onBufs, k0_part8_eq_skeleton]; unfold k0_part8_skel
  simp only [Prog.lift, Prog.bind_op, Prog.bind_ret, Prog.pure_eq_ret]
  iintro H0 H2 HR Hk
  iapply (wp_go m c 4 0 (2, 0) 1 rfl rfl rfl (dev9_eq c) (off10_eq c) (off9_eq c) rfl rfl rfl rfl rfl rfl rfl) $$ H2 HR; iintro H2 HR
  iapply (wp_go m c 5 0 (2, 1) 2 rfl rfl rfl (dev10_eq c) (off12_eq c) (off11_eq c) rfl rfl rfl rfl rfl rfl rfl) $$ H2 HR; iintro H2 HR
  iapply (wp_come m c 6 0 (0, 0) 3 (Entails.of_eq rfl) rfl rfl (by decide +kernel) rfl rfl) $$ H0 HR; iintro H0 HR
  iapply (wp_look pbM c (look_own2 m c 0) (off14_eq c) (by exact ⟨le_rfl, le_rfl, le_rfl, le_rfl⟩)) $$ H0; iintro H0
  iapply (wp_look rcvM c (look_land0 m c 0) (off15_eq c) (by exact ⟨le_rfl, le_rfl, le_rfl, le_rfl⟩)) $$ H0; iintro H0
  iapply (wp_glance accM c (look_acc1 m c 0) (off16_eq c) (acc1_in c 0 rfl rfl)) $$ H0; iintro %v5 H0
  rw [wp_ret]; imodintro
  ihave Hk := Hk $$ %(Scalar.xori v2 3#32) H0 H2 HR
  istop
  exact Entails.of_eq rfl

theorem part9 (Q : _ → sProp 𝕄) (v2 v71 v88 v241 : BitVec 32) :
    Str m c 0 4 ⊢ iprop(Str m c 1 3 -∗ Run m 6 1 c -∗ (∀ r, Str m c 0 6 -∗ Str m c 1 5 -∗ Run m 7 2 c -∗ Q r) -∗ Wp c (onBufs (k0_part9 (F := F)) c v2 v71 v88 v241 (got1 m c)) Q) := by
  simp only [onBufs, k0_part9_eq_skeleton]; unfold k0_part9_skel
  simp only [Prog.lift, Prog.bind_op, Prog.bind_ret, Prog.pure_eq_ret]
  iintro H0 H1 HR Hk
  iapply (wp_put accM c (put_sum1 m c 0) (off16_eq c) rfl fun j => (pay4_at _ _ j).trans (sum1_at m 0 c _ _ _ _)) $$ H0; iintro H0
  iapply (wp_go m c 6 1 (0, 2) 5 rfl rfl rfl (dev11_eq c) (off17_eq c) rfl rfl rfl rfl rfl rfl rfl rfl) $$ H0 HR; iintro H0 HR
  iapply (wp_come m c 7 1 (1, 0) 3 (Entails.of_eq rfl) rfl rfl (by decide +kernel) rfl rfl) $$ H1 HR; iintro H1 HR
  iapply (wp_look pbM c (look_own2 m c 1) (off19_eq c) (by exact ⟨le_rfl, le_rfl, le_rfl, le_rfl⟩)) $$ H1; iintro H1
  iapply (wp_look rcvM c (look_land0 m c 1) (off20_eq c) (by exact ⟨le_rfl, le_rfl, le_rfl, le_rfl⟩)) $$ H1; iintro H1
  iapply (wp_glance accM c (look_acc1 m c 1) (off21_eq c) (acc1_in c 1 rfl rfl)) $$ H1; iintro %v5 H1
  iapply (wp_put accM c (put_sum1 m c 1) (off21_eq c) rfl fun j => (pay5_at _ _ j).trans (sum1_at m 1 c _ _ _ _)) $$ H1; iintro H1
  rw [wp_ret]; imodintro
  iapply Hk $$ H0 H1 HR

theorem part10 (Q : _ → sProp 𝕄) (v2 v111 v128 v270 : BitVec 32) :
    Str m c 1 5 ⊢ iprop(Str m c 2 3 -∗ Run m 7 2 c -∗ (∀ r, Str m c 1 6 -∗ Str m c 2 5 -∗ Run m 8 3 c -∗ Q r) -∗ Wp c (onBufs (k0_part10 (F := F)) c v2 v111 v128 v270) Q) := by
  simp only [onBufs, k0_part10_eq_skeleton]; unfold k0_part10_skel
  simp only [Prog.lift, Prog.bind_op, Prog.bind_ret, Prog.pure_eq_ret]
  iintro H1 H2 HR Hk
  iapply (wp_go m c 7 2 (1, 2) 5 rfl rfl rfl (dev12_eq c) (off22_eq c) rfl rfl rfl rfl rfl rfl rfl rfl) $$ H1 HR; iintro H1 HR
  iapply (wp_come m c 8 2 (2, 0) 3 (Entails.of_eq rfl) rfl rfl (by decide +kernel) rfl rfl) $$ H2 HR; iintro H2 HR
  iapply (wp_look pbM c (look_own2 m c 2) (off24_eq c) (by exact ⟨le_rfl, le_rfl, le_rfl, le_rfl⟩)) $$ H2; iintro H2
  iapply (wp_look rcvM c (look_land0 m c 2) (off25_eq c) (by exact ⟨le_rfl, le_rfl, le_rfl, le_rfl⟩)) $$ H2; iintro H2
  iapply (wp_glance accM c (look_acc1 m c 2) (off26_eq c) (acc1_in c 2 rfl rfl)) $$ H2; iintro %v4 H2
  iapply (wp_put accM c (put_sum1 m c 2) (off26_eq c) rfl fun j => (pay6_at _ _ j).trans (sum1_at m 2 c _ _ _ _)) $$ H2; iintro H2
  rw [wp_ret]; imodintro
  iapply Hk $$ H1 H2 HR

theorem part11 (Q : _ → sProp 𝕄) (v2 v31 v48 v299 : BitVec 32) :
    Str m c 0 6 ⊢ iprop(Str m c 2 5 -∗ Run m 8 3 c -∗ (∀ r, Str m c 0 8 -∗ Str m c 2 6 -∗ Run m 9 5 c -∗ Q ⟨r, got2 m c⟩) -∗ Wp c (onBufs (k0_part11 (F := F)) c v2 v31 v48 v299) Q) := by
  simp only [onBufs, k0_part11_eq_skeleton]; unfold k0_part11_skel
  simp only [Prog.lift, Prog.bind_op, Prog.bind_ret, Prog.pure_eq_ret]
  iintro H0 H2 HR Hk
  iapply (wp_go m c 8 3 (2, 2) 5 rfl rfl rfl (dev13_eq c) (off27_eq c) rfl rfl rfl rfl rfl rfl rfl rfl) $$ H2 HR; iintro H2 HR
  iapply (wp_come m c 9 3 (0, 1) 6 (Entails.of_eq rfl) rfl rfl (by decide +kernel) rfl rfl) $$ H0 HR; iintro H0 HR
  iapply (wp_come m c 9 4 (0, 2) 7 (Entails.of_eq rfl) rfl rfl (by decide +kernel) rfl rfl) $$ H0 HR; iintro H0 HR
  iapply (wp_look pbM c (look_own1 m c 0) (off29_eq c) (by exact ⟨le_rfl, le_rfl, le_rfl, le_rfl⟩)) $$ H0; iintro H0
  rw [wp_ret]; imodintro
  ihave Hk := Hk $$ %(Scalar.xori v2 4#32) H0 H2 HR
  istop
  exact Entails.of_eq rfl

end Cert.Proof

end
-- ==== Proof.ShrinkB.lean ====
module

public import proofs.«01_k».proof.Proof.ShrinkA

/-!
# The pieces of the program: the second sums to the last
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part12 (Q : _ → sProp 𝕄) (v2 v39 v49 v71 v328 : BitVec 32) :
    Str m c 0 8 ⊢ iprop(Str m c 1 6 -∗ Run m 9 5 c -∗ (∀ r r' r'', Str m c 0 10 -∗ Str m c 1 7 -∗ Run m 10 6 c -∗ Q ⟨r, r', r''⟩) -∗ Wp c (onBufs (k0_part12 (F := F)) c v2 v39 v49 v71 v328 (got2 m c)) Q) := by
  simp only [onBufs, k0_part12_eq_skeleton]; unfold k0_part12_skel
  simp only [Prog.lift, Prog.bind_op, Prog.bind_ret, Prog.pure_eq_ret]
  iintro H0 H1 HR Hk
  iapply (wp_look rcvM c (look_land1 m c 0) (off30_eq c) (by exact ⟨le_rfl, le_rfl, le_rfl, le_rfl⟩)) $$ H0; iintro H0
  iapply (wp_look rcvM c (look_land2 m c 0) (ro := drow (0, 2) c) (ko := col 0) rfl (by exact ⟨le_rfl, le_rfl, le_rfl, le_rfl⟩)) $$ H0; iintro H0
  iapply (wp_glance accM c (look_acc2 m c 0) (off31_eq c) (by exact ⟨le_rfl, le_rfl, le_rfl, le_rfl⟩)) $$ H0; iintro %v2 H0
  iapply (wp_put accM c (put_sum2 m c 0) (off31_eq c) rfl fun j => (pay7_at _ _ _ j).trans (sum2_at m 0 c _ _ _ _ _)) $$ H0; iintro H0
  iapply (wp_go m c 9 5 (0, 3) 9 rfl rfl rfl (dev14_eq c) (off32_eq c) rfl rfl rfl rfl rfl rfl rfl rfl) $$ H0 HR; iintro H0 HR
  iapply (wp_come m c 10 5 (1, 1) 6 (Entails.of_eq rfl) rfl rfl (by decide +kernel) rfl rfl) $$ H1 HR; iintro H1 HR
  rw [wp_ret]; imodintro
  iapply Hk $$ H0 H1 HR

theorem part13 (Q : _ → sProp 𝕄) (v2 v79 v88 v89 v111 v367 v368 k1 : BitVec 32) :
    Str m c 1 7 ⊢ iprop(Run m 10 6 c -∗ (∀ r r' r'', Str m c 1 10 -∗ Run m 11 7 c -∗ Q ⟨r, r', r''⟩) -∗ Wp c (onBufs (k0_part13 (F := F)) c v2 v79 v88 v89 v111 v367 v368 k1) Q) := by
  simp only [onBufs, k0_part13_eq_skeleton]; unfold k0_part13_skel
  simp only [Prog.lift, Prog.bind_op, Prog.bind_ret, Prog.pure_eq_ret]
  iintro H1 HR Hk
  iapply (wp_come m c 10 6 (1, 2) 7 (Entails.of_eq rfl) rfl rfl (by decide +kernel) rfl rfl) $$ H1 HR; iintro H1 HR
  iapply (wp_look pbM c (look_own1 m c 1) (off34_eq c) (by exact ⟨le_rfl, le_rfl, le_rfl, le_rfl⟩)) $$ H1; iintro H1
  iapply (wp_look rcvM c (look_land1 m c 1) (off35_eq c) (by exact ⟨le_rfl, le_rfl, le_rfl, le_rfl⟩)) $$ H1; iintro H1
  iapply (wp_look rcvM c (look_land2 m c 1) (ro := drow (1, 2) c) (ko := col 1) rfl (by exact ⟨le_rfl, le_rfl, le_rfl, le_rfl⟩)) $$ H1; iintro H1
  iapply (wp_glance accM c (look_acc2 m c 1) (off36_eq c) (by exact ⟨le_rfl, le_rfl, le_rfl, le_rfl⟩)) $$ H1; iintro %v4 H1
  iapply (wp_put accM c (put_sum2 m c 1) (off36_eq c) rfl fun j => (pay8_at _ _ _ j).trans (sum2_at m 1 c _ _ _ _ _)) $$ H1; iintro H1
  iapply (wp_go m c 10 7 (1, 3) 9 rfl rfl rfl (dev15_eq c) (off37_eq c) rfl rfl rfl rfl rfl rfl rfl rfl) $$ H1 HR; iintro H1 HR
  rw [wp_ret]; imodintro
  iapply Hk $$ H1 HR

theorem part14 (Q : _ → sProp 𝕄) (v2 v119 v128 v129 v407 k0 : BitVec 32) :
    Str m c 2 6 ⊢ iprop(Run m 11 7 c -∗ (Str m c 2 9 -∗ Run m 11 9 c -∗ Q ⟨⟩) -∗ Wp c (onBufs (k0_part14 (F := F)) c v2 v119 v128 v129 v407 k0) Q) := by
  simp only [onBufs, k0_part14_eq_skeleton]; unfold k0_part14_skel
  simp only [Prog.lift, Prog.bind_op, Prog.bind_ret, Prog.pure_eq_ret]
  iintro H2 HR Hk
  iapply (wp_come m c 11 7 (2, 1) 6 (Entails.of_eq rfl) rfl rfl (by decide +kernel) rfl rfl) $$ H2 HR; iintro H2 HR
  iapply (wp_come m c 11 8 (2, 2) 7 (Entails.of_eq rfl) rfl rfl (by decide +kernel) rfl rfl) $$ H2 HR; iintro H2 HR
  iapply (wp_look pbM c (look_own1 m c 2) (off39_eq c) (by exact ⟨le_rfl, le_rfl, le_rfl, le_rfl⟩)) $$ H2; iintro H2
  iapply (wp_look rcvM c (look_land1 m c 2) (off40_eq c) (by exact ⟨le_rfl, le_rfl, le_rfl, le_rfl⟩)) $$ H2; iintro H2
  iapply (wp_look rcvM c (look_land2 m c 2) (ro := drow (2, 2) c) (ko := col 2) rfl (by exact ⟨le_rfl, le_rfl, le_rfl, le_rfl⟩)) $$ H2; iintro H2
  iapply (wp_glance accM c (look_acc2 m c 2) (off41_eq c) (by exact ⟨le_rfl, le_rfl, le_rfl, le_rfl⟩)) $$ H2; iintro %v5 H2
  iapply (wp_put accM c (put_sum2 m c 2) (off41_eq c) rfl fun j => (pay9_at _ _ _ j).trans (sum2_at m 2 c _ _ _ _ _)) $$ H2; iintro H2
  rw [wp_ret]; imodintro
  iapply Hk $$ H2 HR

theorem part15 (Q : _ → sProp 𝕄) (v2 v47 v52 v406 : BitVec 32) :
    Str m c 0 10 ⊢ iprop(Str m c 2 9 -∗ Run m 11 9 c -∗ (Str m c 0 12 -∗ Str m c 2 10 -∗ Run m 12 10 c -∗ Q ⟨⟩) -∗ Wp c (onBufs (k0_part15 (F := F)) c v2 v47 v52 v406) Q) := by
  simp only [onBufs, k0_part15_eq_skeleton]; unfold k0_part15_skel
  simp only [Prog.lift, Prog.bind_op, Prog.bind_ret, Prog.pure_eq_ret]
  iintro H0 H2 HR Hk
  iapply (wp_go m c 11 9 (2, 3) 9 rfl rfl rfl (dev16_eq c) (off42_eq c) rfl rfl rfl rfl rfl rfl rfl rfl) $$ H2 HR; iintro H2 HR
  iapply (wp_come m c 12 9 (0, 3) 10 (Entails.of_eq rfl) rfl rfl (by decide +kernel) rfl rfl) $$ H0 HR; iintro H0 HR
  iapply (wp_look accM c (look_sum2 m c 0) (off43_eq c) (by exact ⟨le_rfl, le_rfl, le_rfl, le_rfl⟩)) $$ H0; iintro H0
  iapply (wp_look rcvM c (look_land3 m c 0) (ro := drow (0, 3) c) (ko := col 0) rfl (by exact ⟨le_rfl, le_rfl, le_rfl, le_rfl⟩)) $$ H0; iintro H0
  iapply (wp_look accM c (look_sum2 m c 0) (off43_eq c) (by exact ⟨le_rfl, le_rfl, le_rfl, le_rfl⟩)) $$ H0; iintro H0
  iapply (wp_put accM c (put_sum3 m c 0) (off43_eq c) rfl fun j => (pay10_at _ _ j).trans (sum3_at m 0 c _ _ _ _)) $$ H0; iintro H0
  rw [wp_ret]; imodintro
  iapply Hk $$ H0 H2 HR

theorem part16 (Q : _ → sProp 𝕄) (v2 v87 v92 : BitVec 32) :
    Str m c 0 12 ⊢ iprop(Str m c 1 10 -∗ Run m 12 10 c -∗ (Str m c 0 13 -∗ Str m c 1 12 -∗ Run m 13 11 c -∗ Q ⟨⟩) -∗ Wp c (onBufs (k0_part16 (F := F)) c v2 v87 v92) Q) := by
  simp only [onBufs, k0_part16_eq_skeleton]; unfold k0_part16_skel
  simp only [Prog.lift, Prog.bind_op, Prog.bind_ret, Prog.pure_eq_ret]
  iintro H0 H1 HR Hk
  iapply (wp_go m c 12 10 (0, 4) 12 rfl rfl rfl (dev17_eq c) (off44_eq c) rfl rfl rfl rfl rfl rfl rfl rfl) $$ H0 HR; iintro H0 HR
  iapply (wp_come m c 13 10 (1, 3) 10 (Entails.of_eq rfl) rfl rfl (by decide +kernel) rfl rfl) $$ H1 HR; iintro H1 HR
  iapply (wp_look accM c (look_sum2 m c 1) (off45_eq c) (by exact ⟨le_rfl, le_rfl, le_rfl, le_rfl⟩)) $$ H1; iintro H1
  iapply (wp_look rcvM c (look_land3 m c 1) (ro := drow (1, 3) c) (ko := col 1) rfl (by exact ⟨le_rfl, le_rfl, le_rfl, le_rfl⟩)) $$ H1; iintro H1
  iapply (wp_look accM c (look_sum2 m c 1) (off45_eq c) (by exact ⟨le_rfl, le_rfl, le_rfl, le_rfl⟩)) $$ H1; iintro H1
  iapply (wp_put accM c (put_sum3 m c 1) (off45_eq c) rfl fun j => (pay11_at _ _ j).trans (sum3_at m 1 c _ _ _ _)) $$ H1; iintro H1
  rw [wp_ret]; imodintro
  iapply Hk $$ H0 H1 HR

theorem part17 (Q : _ → sProp 𝕄) (v2 v127 v132 : BitVec 32) :
    Str m c 1 12 ⊢ iprop(Str m c 2 10 -∗ Run m 13 11 c -∗ (Str m c 1 13 -∗ Str m c 2 13 -∗ Run m 15 12 c -∗ Q ⟨⟩) -∗ Wp c (onBufs (k0_part17 (F := F)) c v2 v127 v132) Q) := by
  simp only [onBufs, k0_part17_eq_skeleton]; unfold k0_part17_skel
  simp only [Prog.lift, Prog.bind_op, Prog.bind_ret, Prog.pure_eq_ret]
  iintro H1 H2 HR Hk
  iapply (wp_go m c 13 11 (1, 4) 12 rfl rfl rfl (dev18_eq c) (off46_eq c) rfl rfl rfl rfl rfl rfl rfl rfl) $$ H1 HR; iintro H1 HR
  iapply (wp_come m c 14 11 (2, 3) 10 (Entails.of_eq rfl) rfl rfl (by decide +kernel) rfl rfl) $$ H2 HR; iintro H2 HR
  iapply (wp_look accM c (look_sum2 m c 2) (off47_eq c) (by exact ⟨le_rfl, le_rfl, le_rfl, le_rfl⟩)) $$ H2; iintro H2
  iapply (wp_look rcvM c (look_land3 m c 2) (ro := drow (2, 3) c) (ko := col 2) rfl (by exact ⟨le_rfl, le_rfl, le_rfl, le_rfl⟩)) $$ H2; iintro H2
  iapply (wp_look accM c (look_sum2 m c 2) (off47_eq c) (by exact ⟨le_rfl, le_rfl, le_rfl, le_rfl⟩)) $$ H2; iintro H2
  iapply (wp_put accM c (put_sum3 m c 2) (off47_eq c) rfl fun j => (pay12_at _ _ j).trans (sum3_at m 2 c _ _ _ _)) $$ H2; iintro H2
  iapply (wp_go m c 14 12 (2, 4) 12 rfl rfl rfl (dev19_eq c) (off48_eq c) rfl rfl rfl rfl rfl rfl rfl rfl) $$ H2 HR; iintro H2 HR
  rw [wp_ret]; imodintro
  iapply Hk $$ H1 H2 HR

theorem part18 (Q : _ → sProp 𝕄) (v2 v48 v54 : BitVec 32) :
    Str m c 0 13 ⊢ iprop(Run m 15 12 c -∗ (Str m c 0 16 -∗ Run m 16 13 c -∗ Q ⟨⟩) -∗ Wp c (onBufs (k0_part18 (F := F)) c v2 v48 v54) Q) := by
  simp only [onBufs, k0_part18_eq_skeleton]; unfold k0_part18_skel
  simp only [Prog.lift, Prog.bind_op, Prog.bind_ret, Prog.pure_eq_ret]
  iintro H0 HR Hk
  iapply (wp_come m c 15 12 (0, 4) 13 (Entails.of_eq rfl) rfl rfl (by decide +kernel) rfl rfl) $$ H0 HR; iintro H0 HR
  iapply (wp_look accM c (look_sum3 m c 0) (off49_eq c) (by exact ⟨le_rfl, le_rfl, le_rfl, le_rfl⟩)) $$ H0; iintro H0
  iapply (wp_look rcvM c (look_land4 m c 0) (ro := drow (0, 4) c) (ko := col 0) rfl (by exact ⟨le_rfl, le_rfl, le_rfl, le_rfl⟩)) $$ H0; iintro H0
  iapply (wp_glance outM c (look_place m c 0) (off50_eq c) (by exact ⟨le_rfl, le_rfl, le_rfl, le_rfl⟩)) $$ H0; iintro %v3 H0
  iapply (wp_put outM c (put_final m c 0) (off50_eq c) rfl fun j => (pay13_at _ _ j).trans (final_at m 0 c _ _ _ _ (j 0).isLt)) $$ H0; iintro H0
  iapply (wp_go m c 15 13 (0, 5) 15 rfl rfl rfl (dev20_eq c) (off51_eq c) (to_mate (x := (0, 5)) c (off51_eq c) (by decide)) rfl rfl rfl rfl rfl rfl rfl) $$ H0 HR; iintro H0 HR
  rw [wp_ret]; imodintro
  iapply Hk $$ H0 HR

theorem part19 (Q : _ → sProp 𝕄) (v2 v88 v94 v134 : BitVec 32) :
    Str m c 1 13 ⊢ iprop(Str m c 2 13 -∗ Run m 16 13 c -∗ (Str m c 1 16 -∗ Str m c 2 14 -∗ Run m 17 15 c -∗ Q ⟨⟩) -∗ Wp c (onBufs (k0_part19 (F := F)) c v2 v88 v94 v134) Q) := by
  simp only [onBufs, k0_part19_eq_skeleton]; unfold k0_part19_skel
  simp only [Prog.lift, Prog.bind_op, Prog.bind_ret, Prog.pure_eq_ret]
  iintro H1 H2 HR Hk
  iapply (wp_come m c 16 13 (1, 4) 13 (Entails.of_eq rfl) rfl rfl (by decide +kernel) rfl rfl) $$ H1 HR; iintro H1 HR
  iapply (wp_look accM c (look_sum3 m c 1) (off52_eq c) (by exact ⟨le_rfl, le_rfl, le_rfl, le_rfl⟩)) $$ H1; iintro H1
  iapply (wp_look rcvM c (look_land4 m c 1) (ro := drow (1, 4) c) (ko := col 1) rfl (by exact ⟨le_rfl, le_rfl, le_rfl, le_rfl⟩)) $$ H1; iintro H1
  iapply (wp_glance outM c (look_place m c 1) (off53_eq c) (by exact ⟨le_rfl, le_rfl, le_rfl, le_rfl⟩)) $$ H1; iintro %v3 H1
  iapply (wp_put outM c (put_final m c 1) (off53_eq c) rfl fun j => (pay14_at _ _ j).trans (final_at m 1 c _ _ _ _ (j 0).isLt)) $$ H1; iintro H1
  iapply (wp_go m c 16 14 (1, 5) 15 rfl rfl rfl (dev21_eq c) (off54_eq c) (to_mate (x := (1, 5)) c (off54_eq c) (by decide)) rfl rfl rfl rfl rfl rfl rfl) $$ H1 HR; iintro H1 HR
  iapply (wp_come m c 17 14 (2, 4) 13 (Entails.of_eq rfl) rfl rfl (by decide +kernel) rfl rfl) $$ H2 HR; iintro H2 HR
  rw [wp_ret]; imodintro
  iapply Hk $$ H1 H2 HR

theorem part20 (Q : _ → sProp 𝕄) (v2 v48 v52 v54 v128 v134 : BitVec 32) :
    Str m c 0 16 ⊢ iprop(Str m c 2 14 -∗ Run m 17 15 c -∗ (∀ r r', Str m c 0 17 -∗ Str m c 2 16 -∗ Run m 18 16 c -∗ Q ⟨r, r'⟩) -∗ Wp c (onBufs (k0_part20 (F := F)) c v2 v48 v52 v54 v128 v134) Q) := by
  simp only [onBufs, k0_part20_eq_skeleton]; unfold k0_part20_skel
  simp only [Prog.lift, Prog.bind_op, Prog.bind_ret, Prog.pure_eq_ret]
  iintro H0 H2 HR Hk
  iapply (wp_look accM c (look_sum3 m c 2) (off55_eq c) (by exact ⟨le_rfl, le_rfl, le_rfl, le_rfl⟩)) $$ H2; iintro H2
  iapply (wp_look rcvM c (look_land4 m c 2) (ro := drow (2, 4) c) (ko := col 2) rfl (by exact ⟨le_rfl, le_rfl, le_rfl, le_rfl⟩)) $$ H2; iintro H2
  iapply (wp_glance outM c (look_place m c 2) (off56_eq c) (by exact ⟨le_rfl, le_rfl, le_rfl, le_rfl⟩)) $$ H2; iintro %v2 H2
  iapply (wp_put outM c (put_final m c 2) (off56_eq c) rfl fun j => (pay15_at _ _ j).trans (final_at m 2 c _ _ _ _ (j 0).isLt)) $$ H2; iintro H2
  iapply (wp_go m c 17 15 (2, 5) 15 rfl rfl rfl (dev22_eq c) (off57_eq c) (to_mate (x := (2, 5)) c (off57_eq c) (by decide)) rfl rfl rfl rfl rfl rfl rfl) $$ H2 HR; iintro H2 HR
  iapply (wp_come m c 18 15 (0, 5) 16 (arrive5 m c 0) rfl rfl (by decide +kernel) rfl rfl) $$ H0 HR; iintro H0 HR
  rw [wp_ret]; imodintro
  iapply Hk $$ H0 H2 HR

end Cert.Proof

end
-- ==== Proof.Grow.lean ====
module

public import proofs.«01_k».proof.Proof.ShrinkA

/-!
# The pieces of the program: the finished rows go round
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part21 (Q : _ → sProp 𝕄) (v2 v88 v92 v94 v128 v134 v604 k0 : BitVec 32) :
    Str m c 0 17 ⊢ iprop(Str m c 1 16 -∗ Run m 18 16 c -∗ (Str m c 0 18 -∗ Str m c 1 18 -∗ Run m 20 17 c -∗ Q ⟨⟩) -∗ Wp c (onBufs (k0_part21 (F := F)) c v2 v88 v92 v94 v128 v134 v604 k0) Q) := by
  simp only [onBufs, k0_part21_eq_skeleton]; unfold k0_part21_skel
  simp only [Prog.lift, Prog.bind_op, Prog.bind_ret, Prog.pure_eq_ret]
  iintro H0 H1 HR Hk
  iapply (wp_go m c 18 16 (0, 6) 17 rfl rfl rfl (dev23_eq c) (off58_eq c) (to_mate (x := (0, 6)) c (off58_eq c) (by decide)) rfl rfl rfl rfl rfl rfl rfl) $$ H0 HR; iintro H0 HR
  iapply (wp_come m c 19 16 (1, 5) 16 (arrive5 m c 1) rfl rfl (by decide +kernel) rfl rfl) $$ H1 HR; iintro H1 HR
  iapply (wp_go m c 19 17 (1, 6) 17 rfl rfl rfl (dev24_eq c) (off59_eq c) (to_mate (x := (1, 6)) c (off59_eq c) (by decide)) rfl rfl rfl rfl rfl rfl rfl) $$ H1 HR; iintro H1 HR
  rw [wp_ret]; imodintro
  iapply Hk $$ H0 H1 HR

theorem part22 (Q : _ → sProp 𝕄) (v2 v48 v49 v52 v128 v132 : BitVec 32) :
    Str m c 0 18 ⊢ iprop(Str m c 2 16 -∗ Run m 20 17 c -∗ (Str m c 0 19 -∗ Str m c 2 18 -∗ Run m 21 19 c -∗ Q ⟨⟩) -∗ Wp c (onBufs (k0_part22 (F := F)) c v2 v48 v49 v52 v128 v132) Q) := by
  simp only [onBufs, k0_part22_eq_skeleton]; unfold k0_part22_skel
  simp only [Prog.lift, Prog.bind_op, Prog.bind_ret, Prog.pure_eq_ret]
  iintro H0 H2 HR Hk
  iapply (wp_come m c 20 17 (2, 5) 16 (arrive5 m c 2) rfl rfl (by decide +kernel) rfl rfl) $$ H2 HR; iintro H2 HR
  iapply (wp_go m c 20 18 (2, 6) 17 rfl rfl rfl (dev25_eq c) (off60_eq c) (to_mate (x := (2, 6)) c (off60_eq c) (by decide)) rfl rfl rfl rfl rfl rfl rfl) $$ H2 HR; iintro H2 HR
  iapply (wp_come m c 21 18 (0, 6) 18 (arrive6 m c 0) rfl rfl (by decide +kernel) rfl rfl) $$ H0 HR; iintro H0 HR
  rw [wp_ret]; imodintro
  iapply Hk $$ H0 H2 HR

theorem part23 (Q : _ → sProp 𝕄) (v2 v88 v89 v92 : BitVec 32) :
    Str m c 0 19 ⊢ iprop(Str m c 1 18 -∗ Run m 21 19 c -∗ (∀ r, Str m c 0 21 -∗ Str m c 1 20 -∗ Run m 24 20 c -∗ Q r) -∗ Wp c (onBufs (k0_part23 (F := F)) c v2 v88 v89 v92) Q) := by
  simp only [onBufs, k0_part23_eq_skeleton]; unfold k0_part23_skel
  simp only [Prog.lift, Prog.bind_op, Prog.bind_ret, Prog.pure_eq_ret]
  iintro H0 H1 HR Hk
  iapply (wp_go m c 21 19 (0, 7) 19 rfl rfl rfl (dev26_eq c) (off61_eq c) (to_mate (x := (0, 7)) c (off61_eq c) (by decide)) rfl rfl rfl rfl rfl rfl rfl) $$ H0 HR; iintro H0 HR
  iapply (wp_go m c 22 19 (0, 8) 20 rfl rfl rfl (dev27_eq c) (off61_eq c) (to_mate (x := (0, 8)) c (off61_eq c) (by decide)) rfl rfl rfl rfl rfl rfl rfl) $$ H0 HR; iintro H0 HR
  iapply (wp_come m c 23 19 (1, 6) 18 (arrive6 m c 1) rfl rfl (by decide +kernel) rfl rfl) $$ H1 HR; iintro H1 HR
  iapply (wp_go m c 23 20 (1, 7) 19 rfl rfl rfl (dev28_eq c) (off62_eq c) (to_mate (x := (1, 7)) c (off62_eq c) (by decide)) rfl rfl rfl rfl rfl rfl rfl) $$ H1 HR; iintro H1 HR
  rw [wp_ret]; imodintro
  iapply Hk $$ H0 H1 HR

theorem part24 (Q : _ → sProp 𝕄) (v2 v128 v129 v132 v689 : BitVec 32) :
    Str m c 1 20 ⊢ iprop(Str m c 2 18 -∗ Run m 24 20 c -∗ (∀ r r', Str m c 1 21 -∗ Str m c 2 20 -∗ Run m 26 21 c -∗ Q ⟨r, r'⟩) -∗ Wp c (onBufs (k0_part24 (F := F)) c v2 v128 v129 v132 v689) Q) := by
  simp only [onBufs, k0_part24_eq_skeleton]; unfold k0_part24_skel
  simp only [Prog.lift, Prog.bind_op, Prog.bind_ret, Prog.pure_eq_ret]
  iintro H1 H2 HR Hk
  iapply (wp_go m c 24 20 (1, 8) 20 rfl rfl rfl (dev29_eq c) (off62_eq c) (to_mate (x := (1, 8)) c (off62_eq c) (by decide)) rfl rfl rfl rfl rfl rfl rfl) $$ H1 HR; iintro H1 HR
  iapply (wp_come m c 25 20 (2, 6) 18 (arrive6 m c 2) rfl rfl (by decide +kernel) rfl rfl) $$ H2 HR; iintro H2 HR
  iapply (wp_go m c 25 21 (2, 7) 19 rfl rfl rfl (dev30_eq c) (off63_eq c) (to_mate (x := (2, 7)) c (off63_eq c) (by decide)) rfl rfl rfl rfl rfl rfl rfl) $$ H2 HR; iintro H2 HR
  rw [wp_ret]; imodintro
  iapply Hk $$ H1 H2 HR

theorem part25 (Q : _ → sProp 𝕄) (v2 v31 v48 v49 v88 v89 v715 k1 : BitVec 32) :
    Str m c 0 21 ⊢ iprop(Str m c 2 20 -∗ Run m 26 21 c -∗ (Str m c 0 23 -∗ Str m c 2 21 -∗ Run m 28 22 c -∗ Q ⟨⟩) -∗ Wp c (onBufs (k0_part25 (F := F)) c v2 v31 v48 v49 v88 v89 v715 k1) Q) := by
  simp only [onBufs, k0_part25_eq_skeleton]; unfold k0_part25_skel
  simp only [Prog.lift, Prog.bind_op, Prog.bind_ret, Prog.pure_eq_ret]
  iintro H0 H2 HR Hk
  iapply (wp_go m c 26 21 (2, 8) 20 rfl rfl rfl (dev31_eq c) (off63_eq c) (to_mate (x := (2, 8)) c (off63_eq c) (by decide)) rfl rfl rfl rfl rfl rfl rfl) $$ H2 HR; iintro H2 HR
  iapply (wp_come m c 27 21 (0, 7) 21 (Entails.of_eq rfl) rfl rfl (by decide +kernel) rfl rfl) $$ H0 HR; iintro H0 HR
  iapply (wp_go m c 27 22 (0, 9) 22 rfl rfl rfl (dev32_eq c) (off64_eq c) (to_mate (x := (0, 9)) c (off64_eq c) (by decide)) rfl rfl rfl rfl rfl rfl rfl) $$ H0 HR; iintro H0 HR
  rw [wp_ret]; imodintro
  iapply Hk $$ H0 H2 HR

theorem part26 (Q : _ → sProp 𝕄) (v2 v71 v88 v111 v128 v129 : BitVec 32) :
    Str m c 1 21 ⊢ iprop(Str m c 2 21 -∗ Run m 28 22 c -∗ (Str m c 1 23 -∗ Str m c 2 22 -∗ Run m 29 24 c -∗ Q ⟨⟩) -∗ Wp c (onBufs (k0_part26 (F := F)) c v2 v71 v88 v111 v128 v129) Q) := by
  simp only [onBufs, k0_part26_eq_skeleton]; unfold k0_part26_skel
  simp only [Prog.lift, Prog.bind_op, Prog.bind_ret, Prog.pure_eq_ret]
  iintro H1 H2 HR Hk
  iapply (wp_come m c 28 22 (1, 7) 21 (Entails.of_eq rfl) rfl rfl (by decide +kernel) rfl rfl) $$ H1 HR; iintro H1 HR
  iapply (wp_go m c 28 23 (1, 9) 22 rfl rfl rfl (dev33_eq c) (off65_eq c) (to_mate (x := (1, 9)) c (off65_eq c) (by decide)) rfl rfl rfl rfl rfl rfl rfl) $$ H1 HR; iintro H1 HR
  iapply (wp_come m c 29 23 (2, 7) 21 (Entails.of_eq rfl) rfl rfl (by decide +kernel) rfl rfl) $$ H2 HR; iintro H2 HR
  rw [wp_ret]; imodintro
  iapply Hk $$ H1 H2 HR

theorem part27 (Q : _ → sProp 𝕄) (v2 : BitVec 32) :
    Str m c 0 23 ⊢ iprop(Str m c 1 23 -∗ Str m c 2 22 -∗ Run m 29 24 c -∗ (∀ r r', Str m c 0 25 -∗ Str m c 1 24 -∗ Str m c 2 23 -∗ Run m 30 27 c -∗ Q ⟨r, r'⟩) -∗ Wp c (onBufs (k0_part27 (F := F)) c v2) Q) := by
  simp only [onBufs, k0_part27_eq_skeleton]; unfold k0_part27_skel
  simp only [Prog.lift, Prog.bind_op, Prog.bind_ret, Prog.pure_eq_ret]
  iintro H0 H1 H2 HR Hk
  iapply (wp_go m c 29 24 (2, 9) 22 rfl rfl rfl (dev34_eq c) (off66_eq c) (to_mate (x := (2, 9)) c (off66_eq c) (by decide)) rfl rfl rfl rfl rfl rfl rfl) $$ H2 HR; iintro H2 HR
  iapply (wp_come m c 30 24 (0, 8) 23 (Entails.of_eq rfl) rfl rfl (by decide +kernel) rfl rfl) $$ H0 HR; iintro H0 HR
  iapply (wp_come m c 30 25 (0, 9) 24 (Entails.of_eq rfl) rfl rfl (by decide +kernel) rfl rfl) $$ H0 HR; iintro H0 HR
  iapply (wp_come m c 30 26 (1, 8) 23 (Entails.of_eq rfl) rfl rfl (by decide +kernel) rfl rfl) $$ H1 HR; iintro H1 HR
  rw [wp_ret]; imodintro
  iapply Hk $$ H0 H1 H2 HR

end Cert.Proof

end
-- ==== Proof.Drain.lean ====
module

public import proofs.«01_k».proof.Proof.ShrinkA

/-!
# The pieces of the program: the sources come back
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem part28 (Q : _ → sProp 𝕄) (v2 v799 k0 : BitVec 32) :
    Str m c 1 24 ⊢ iprop(Str m c 2 23 -∗ Run m 30 27 c -∗ (Str m c 1 25 -∗ Str m c 2 25 -∗ sepL waits (RZero c) -∗ Back m 1 c -∗ Q ⟨⟩) -∗ Wp c (onBufs (k0_part28 (F := F)) c v2 v799 k0) Q) := by
  simp only [onBufs, k0_part28_eq_skeleton]; unfold k0_part28_skel
  simp only [Prog.lift, Prog.bind_op, Prog.bind_ret, Prog.pure_eq_ret]
  iintro H1 H2 HR Hk
  iapply (wp_come m c 30 27 (1, 9) 24 (Entails.of_eq rfl) rfl rfl (by decide +kernel) rfl rfl) $$ H1 HR; iintro H1 HR
  iapply (wp_come m c 30 28 (2, 8) 23 (Entails.of_eq rfl) rfl rfl (by decide +kernel) rfl rfl) $$ H2 HR; iintro H2 HR
  iapply (wp_come m c 30 29 (2, 9) 24 (Entails.of_eq rfl) rfl rfl (by decide +kernel) rfl rfl) $$ H2 HR; iintro H2 HR
  ihave HR := (run_back m c) $$ HR
  icases HR with ⟨HV, HB⟩
  iapply (wp_bck m c 0 (0, 0) rfl rfl rfl rfl) $$ HB; iintro HB
  rw [wp_ret]; imodintro
  iapply Hk $$ H1 H2 HV HB

theorem part29 (Q : _ → sProp 𝕄) :
    Back m 1 c ⊢ iprop((Back m 5 c -∗ Q ⟨⟩) -∗ Wp c (onBufs (k0_part29 (F := F))) Q) := by
  simp only [onBufs, k0_part29_eq_skeleton]; unfold k0_part29_skel
  simp only [Prog.lift, Prog.bind_op, Prog.bind_ret, Prog.pure_eq_ret]
  iintro HB Hk
  iapply (wp_bck m c 1 (0, 8) rfl rfl rfl rfl) $$ HB; iintro HB
  iapply (wp_bck m c 2 (0, 2) rfl rfl rfl rfl) $$ HB; iintro HB
  iapply (wp_bck m c 3 (0, 7) rfl rfl rfl rfl) $$ HB; iintro HB
  iapply (wp_bck m c 4 (0, 3) rfl rfl rfl rfl) $$ HB; iintro HB
  rw [wp_ret]; imodintro
  iapply Hk $$ HB

theorem part30 (Q : _ → sProp 𝕄) :
    Back m 5 c ⊢ iprop((Back m 10 c -∗ Q ⟨⟩) -∗ Wp c (onBufs (k0_part30 (F := F))) Q) := by
  simp only [onBufs, k0_part30_eq_skeleton]; unfold k0_part30_skel
  simp only [Prog.lift, Prog.bind_op, Prog.bind_ret, Prog.pure_eq_ret]
  iintro HB Hk
  iapply (wp_bck m c 5 (0, 6) rfl rfl rfl rfl) $$ HB; iintro HB
  iapply (wp_bck m c 6 (0, 4) rfl rfl rfl rfl) $$ HB; iintro HB
  iapply (wp_bck m c 7 (0, 5) rfl rfl rfl rfl) $$ HB; iintro HB
  iapply (wp_bck m c 8 (0, 1) rfl rfl rfl rfl) $$ HB; iintro HB
  iapply (wp_bck m c 9 (0, 9) rfl rfl rfl rfl) $$ HB; iintro HB
  rw [wp_ret]; imodintro
  iapply Hk $$ HB

theorem part31 (Q : _ → sProp 𝕄) :
    Back m 10 c ⊢ iprop((Back m 14 c -∗ Q ⟨⟩) -∗ Wp c (onBufs (k0_part31 (F := F))) Q) := by
  simp only [onBufs, k0_part31_eq_skeleton]; unfold k0_part31_skel
  simp only [Prog.lift, Prog.bind_op, Prog.bind_ret, Prog.pure_eq_ret]
  iintro HB Hk
  iapply (wp_bck m c 10 (1, 0) rfl rfl rfl rfl) $$ HB; iintro HB
  iapply (wp_bck m c 11 (1, 8) rfl rfl rfl rfl) $$ HB; iintro HB
  iapply (wp_bck m c 12 (1, 2) rfl rfl rfl rfl) $$ HB; iintro HB
  iapply (wp_bck m c 13 (1, 7) rfl rfl rfl rfl) $$ HB; iintro HB
  rw [wp_ret]; imodintro
  iapply Hk $$ HB

theorem part32 (Q : _ → sProp 𝕄) :
    Back m 14 c ⊢ iprop((Back m 19 c -∗ Q ⟨⟩) -∗ Wp c (onBufs (k0_part32 (F := F))) Q) := by
  simp only [onBufs, k0_part32_eq_skeleton]; unfold k0_part32_skel
  simp only [Prog.lift, Prog.bind_op, Prog.bind_ret, Prog.pure_eq_ret]
  iintro HB Hk
  iapply (wp_bck m c 14 (1, 3) rfl rfl rfl rfl) $$ HB; iintro HB
  iapply (wp_bck m c 15 (1, 6) rfl rfl rfl rfl) $$ HB; iintro HB
  iapply (wp_bck m c 16 (1, 4) rfl rfl rfl rfl) $$ HB; iintro HB
  iapply (wp_bck m c 17 (1, 5) rfl rfl rfl rfl) $$ HB; iintro HB
  iapply (wp_bck m c 18 (1, 1) rfl rfl rfl rfl) $$ HB; iintro HB
  rw [wp_ret]; imodintro
  iapply Hk $$ HB

theorem part33 (Q : _ → sProp 𝕄) :
    Back m 19 c ⊢ iprop((Back m 23 c -∗ Q ⟨⟩) -∗ Wp c (onBufs (k0_part33 (F := F))) Q) := by
  simp only [onBufs, k0_part33_eq_skeleton]; unfold k0_part33_skel
  simp only [Prog.lift, Prog.bind_op, Prog.bind_ret, Prog.pure_eq_ret]
  iintro HB Hk
  iapply (wp_bck m c 19 (1, 9) rfl rfl rfl rfl) $$ HB; iintro HB
  iapply (wp_bck m c 20 (2, 0) rfl rfl rfl rfl) $$ HB; iintro HB
  iapply (wp_bck m c 21 (2, 8) rfl rfl rfl rfl) $$ HB; iintro HB
  iapply (wp_bck m c 22 (2, 2) rfl rfl rfl rfl) $$ HB; iintro HB
  rw [wp_ret]; imodintro
  iapply Hk $$ HB

theorem part34 (Q : _ → sProp 𝕄) :
    Back m 23 c ⊢ iprop((Back m 27 c -∗ Q ⟨⟩) -∗ Wp c (onBufs (k0_part34 (F := F))) Q) := by
  simp only [onBufs, k0_part34_eq_skeleton]; unfold k0_part34_skel
  simp only [Prog.lift, Prog.bind_op, Prog.bind_ret, Prog.pure_eq_ret]
  iintro HB Hk
  iapply (wp_bck m c 23 (2, 7) rfl rfl rfl rfl) $$ HB; iintro HB
  iapply (wp_bck m c 24 (2, 3) rfl rfl rfl rfl) $$ HB; iintro HB
  iapply (wp_bck m c 25 (2, 6) rfl rfl rfl rfl) $$ HB; iintro HB
  iapply (wp_bck m c 26 (2, 4) rfl rfl rfl rfl) $$ HB; iintro HB
  rw [wp_ret]; imodintro
  iapply Hk $$ HB

end Cert.Proof

end
-- ==== Proof.Body.lean ====
module

public import proofs.«01_k».proof.Proof.Handshake
public import proofs.«01_k».proof.Proof.ShrinkB
public import proofs.«01_k».proof.Proof.Grow
public import proofs.«01_k».proof.Proof.Drain

/-!
# The body of the kernel

From the device's share of the start to its end.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A piece without memory operations hands on some words. -/
theorem part2 (Q : _ → sProp 𝕄) (v2 v23 v24 v26 : BitVec 32) : iprop(∀ v, Q v) ⊢ Wp c (onBufs (k0_part2 (F := F)) v2 v23 v24 v26) Q := by
  simp only [onBufs, k0_part2_eq_skeleton]; unfold k0_part2_skel
  simp only [Prog.pure_eq_ret]
  unfold Wp; rw [wp_ret]
  iintro H; imodintro; iapply H
theorem part3 (Q : _ → sProp 𝕄) (v2 v62 k1 : BitVec 32) : iprop(∀ v, Q v) ⊢ Wp c (onBufs (k0_part3 (F := F)) v2 v62 k1) Q := by
  simp only [onBufs, k0_part3_eq_skeleton]; unfold k0_part3_skel
  simp only [Prog.pure_eq_ret]
  unfold Wp; rw [wp_ret]
  iintro H; imodintro; iapply H
theorem part4 (Q : _ → sProp 𝕄) (v2 v96 v98 k2 : BitVec 32) : iprop(∀ v, Q v) ⊢ Wp c (onBufs (k0_part4 (F := F)) v2 v96 v98 k2) Q := by
  simp only [onBufs, k0_part4_eq_skeleton]; unfold k0_part4_skel
  simp only [Prog.pure_eq_ret]
  unfold Wp; rw [wp_ret]
  iintro H; imodintro; iapply H

/-- A device's end: the three streams through all stages, the receive semaphores, the barrier's and the send semaphores at zero,
    the sources back. -/
def Done : sProp 𝕄 :=
  iprop(Ops m c ∗ (Str m c 0 25 ∗ Str m c 1 25 ∗ Str m c 2 25) ∗ semVal (barCell c) 0 ∗ sepL waits (RZero c) ∗ Back m 30 c)

/-- The body: its pieces one after the other. -/
theorem body (Q : PUnit → sProp 𝕄) :
    iprop(Ops m c ∗ (Str m c 0 0 ∗ Str m c 1 0 ∗ Str m c 2 0) ∗ Init m c) ⊢ iprop((Done m c -∗ Q ⟨⟩) -∗ Wp c (onBufs (cc0_body (F := F))) Q) := by
  simp only [onBufs, cc0_body_eq_skeleton]; unfold cc0_body_skel
  simp only [k0_part35_eq_skeleton]; unfold k0_part35_skel
  simp only [Prog.lift, Prog.bind_op, Prog.bind_ret, Prog.pure_eq_ret, wp_bind]
  iintro ⟨HO, ⟨H0, H1, H2⟩, HI⟩ Hk
  iapply (part1 m c) $$ HI; iintro %a1 %a2 %a3 %a4 HR HZ
  iapply (part2 c); iintro %w2
  iapply (part3 c); iintro %w3
  iapply (part4 c); iintro %w4
  iapply (part5 m c) $$ HO H0 HR; iintro HO H0 HR
  iapply (part6 m c) $$ HO H0 H1 HR; iintro %r6 HO H0 H1 HR
  iapply (part7 m c) $$ HO H1 H2 HR; iintro %r7 %s7 %t7 HO H1 H2 HR
  iapply (part8 m c) $$ H0 H2 HR; iintro %r8 H0 H2 HR
  iapply (part9 m c) $$ H0 H1 HR; iintro %r9 H0 H1 HR
  iapply (part10 m c) $$ H1 H2 HR; iintro %r10 H1 H2 HR
  iapply (part11 m c) $$ H0 H2 HR; iintro %r11 H0 H2 HR
  iapply (part12 m c) $$ H0 H1 HR; iintro %r12 %s12 %t12 H0 H1 HR
  iapply (part13 m c) $$ H1 HR; iintro %r13 %s13 %t13 H1 HR
  iapply (part14 m c) $$ H2 HR; iintro H2 HR
  iapply (part15 m c) $$ H0 H2 HR; iintro H0 H2 HR
  iapply (part16 m c) $$ H0 H1 HR; iintro H0 H1 HR
  iapply (part17 m c) $$ H1 H2 HR; iintro H1 H2 HR
  iapply (part18 m c) $$ H0 HR; iintro H0 HR
  iapply (part19 m c) $$ H1 H2 HR; iintro H1 H2 HR
  iapply (part20 m c) $$ H0 H2 HR; iintro %r20 %s20 H0 H2 HR
  iapply (part21 m c) $$ H0 H1 HR; iintro H0 H1 HR
  iapply (part22 m c) $$ H0 H2 HR; iintro H0 H2 HR
  iapply (part23 m c) $$ H0 H1 HR; iintro %r23 H0 H1 HR
  iapply (part24 m c) $$ H1 H2 HR; iintro %r24 %s24 H1 H2 HR
  iapply (part25 m c) $$ H0 H2 HR; iintro H0 H2 HR
  iapply (part26 m c) $$ H1 H2 HR; iintro H1 H2 HR
  iapply (part27 m c) $$ H0 H1 H2 HR; iintro %r27 %s27 H0 H1 H2 HR
  iapply (part28 m c) $$ H1 H2 HR; iintro H1 H2 HV HB
  iapply (part29 m c) $$ HB; iintro HB
  iapply (part30 m c) $$ HB; iintro HB
  iapply (part31 m c) $$ HB; iintro HB
  iapply (part32 m c) $$ HB; iintro HB
  iapply (part33 m c) $$ HB; iintro HB
  iapply (part34 m c) $$ HB; iintro HB
  iapply (wp_bck m c 27 (2, 5) rfl rfl rfl rfl) $$ HB; iintro HB
  iapply (wp_bck m c 28 (2, 1) rfl rfl rfl rfl) $$ HB; iintro HB
  rw [wp_ret]; imodintro
  iapply (wp_bck m c 29 (2, 9) rfl rfl rfl rfl) $$ HB; iintro HB
  rw [wp_ret]; imodintro
  iapply Hk
  unfold Done
  isplitl [HO]; · iexact HO
  isplitl [H0 H1 H2]
  · isplitl [H0]; · iexact H0
    isplitl [H1] <;> iassumption
  isplitl [HZ]; · iexact HZ
  isplitl [HV] <;> iassumption

end Cert.Proof

end
-- ==== Proof.Whole.lean ====
module

public import proofs.«01_k».proof.Proof.Body

/-!
# Whole buffers

At its start a device has its buffers whole, and at its end again.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Generic
variable {R : ℕ} (mm : Memref sig .tc .vmem (Mat R) .bf16) (c : Dev nD)

theorem box_all : (box 0 R 0 2048 : Finset (Mat R).Idx) = Finset.univ := by
  ext j
  rw [mem_box]
  have h0 : (j 0).val < R := (j 0).isLt
  have h1 : (j 1).val < 2048 := (j 1).isLt
  exact ⟨fun _ => Finset.mem_univ _, fun _ => by omega⟩

theorem setOn_all (hs : mm.view.set = Finset.univ) : mm.view.setOn (box 0 R 0 2048) = Finset.univ := by
  rw [box_all]; exact hs

/-- A whole buffer is the box of all its rows and columns. -/
theorem Room_whole (hs : mm.view.set = Finset.univ) :
    Room (F := F) mm c 0 R 0 2048 = iprop(∃ B : Buf (Elt F) (mm.view.loc (c : Thread nD τ)), (mm.view.loc (c : Thread nD τ)) ↦{fullShare} B) := by
  unfold Room; rw [setOn_all mm hs]

theorem Held_whole (hs : mm.view.set = Finset.univ) (g : ℕ → ℕ → Elt F .bf16) (B : Buf (Elt F) (mm.view.loc (c : Thread nD τ)))
    (hB : ∀ j, mm.view.read (Elt F) B j = g (j 0).val (j 1).val) :
    ((mm.view.loc (c : Thread nD τ)) ↦{fullShare} B) ⊢ Held mm c fullShare 0 R 0 2048 0 g := by
  unfold Held; rw [setOn_all mm hs]
  iintro H
  iexists B
  isplitr
  · ipureintro; intro j _; rw [hB j, Nat.sub_zero, Nat.zero_add]
  · iexact H

theorem Held_cols (q : PosShare TreeShare) (r n k w₁ w₂ a : ℕ) (g : ℕ → ℕ → Elt F .bf16) :
    iprop(Held mm c q r n k w₁ a g ∗ Held mm c q r n (k + w₁) w₂ a g) ⊢ Held mm c q r n k (w₁ + w₂) a g := by
  have hd : Disjoint (mm.view.setOn (box r n k w₁)) (mm.view.setOn (box r n (k + w₁) w₂)) :=
    setOn_box_disjoint mm (Or.inr (Or.inr (Or.inl le_rfl)))
  unfold Held
  rw [setOn_box_cols]
  iintro ⟨⟨%B₁, %h₁, H₁⟩, ⟨%B₂, %h₂, H₂⟩⟩
  iexists ((mm.view.setOn (box r n (k + w₁) w₂)).piecewise B₂ B₁)
  isplitr
  · ipureintro; intro j hj
    by_cases h : (j 1).val < k + w₁
    · have hm : j ∈ box r n k w₁ := by rw [mem_box] at hj ⊢; omega
      rw [(read_piecewise mm c B₁ B₂ j hd).2 hm, h₁ j hm]
    · have hm : j ∈ box r n (k + w₁) w₂ := by rw [mem_box] at hj ⊢; omega
      rw [(read_piecewise mm c B₁ B₂ j hd).1 hm, h₂ j hm]
  · iapply (pointsTo_join hd); isplitl [H₁] <;> iassumption

end Generic

theorem by_three (Φ : Fin 3 → sProp 𝕄) : bigSep Finset.univ Φ = iprop(Φ 0 ∗ Φ 1 ∗ Φ 2) :=
  bigSep_univ_eq_bigSepL [0, 1, 2] (by decide) (by decide) Φ

theorem places_all : ([0, 1, 2, 3, 4, 5, 6, 7, 8, 9] : List (Fin 10)).Nodup ∧ ∀ t : Fin 10, t ∈ ([0, 1, 2, 3, 4, 5, 6, 7, 8, 9] : List (Fin 10)) := by decide

section Streams
variable (c : Dev nD) (s : Fin 3)

/-- The columns of one stream in the four buffers are its first state and the room for its arrivals; -/
theorem enter : iprop(Room outM c 0 2048 (col s) (wid s) ∗ Room pbM c 0 2048 (col s) (wid s) ∗ Room accM c 0 1024 (col s) (wid s)
      ∗ Room rcvM c 0 1920 (col s) (wid s)) ⊢ iprop(Str m c s 0 ∗ bigSep Finset.univ fun t : Fin 10 => Free (s, t) c) := by
  rw [← sepL_univ _ places_all]
  simp only [sepL_cons, Str]
  unfold Place
  rw [out_room, rcv_room]
  iintro ⟨⟨⟨⟨⟨Ho, H5⟩, H6⟩, H7⟩, H8, H9⟩, Hp, Ha, ⟨⟨⟨H1, H0⟩, H2⟩, H3⟩, H4⟩
  isplitl [Hp Ha Ho]
  · isplitl [Hp]; · iexact Hp
    isplitl [Ha] <;> iassumption
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (Entails.of_eq (show (iprop(emp) : sProp 𝕄) = sepL [] _ from rfl)); iempintro

/-- its last state and the sources are the finished columns and the columns of the other buffers. -/
theorem leave : iprop(Str m c s 25 ∗ bigSep Finset.univ fun t : Fin 10 => Src m (s, t) c)
    ⊢ iprop(Out m s c fullShare 0 2048 ∗ Room pbM c 0 2048 (col s) (wid s) ∗ Room accM c 0 1024 (col s) (wid s)
      ∗ Room rcvM c 0 1920 (col s) (wid s)) := by
  rw [← sepL_univ _ places_all, rcv_room]
  simp only [sepL_cons, Str]
  unfold Kept3 Scat Low2 Own
  iintro ⟨⟨L9, L8, ⟨K1, K2, K3⟩, A, O, L4, L3, L2, L1, L0⟩, S0, S1, S2, S3, S4, S5, S6, S7, S8, S9, -⟩
  isplitl [L9 L8 K1 K2 K3 S5 S6 S7 S8 S9]
  · iapply (gather_end m s c)
    unfold Kept
    isplitl [L9 L8 K1 K2 K3]
    · isplitl [K1]; · iexact K1
      isplitl [K2]; · iexact K2
      isplitl [K3]; · iexact K3
      isplitl [L8] <;> iassumption
    isplitl [S5]; · iexact S5
    isplitl [S6]; · iexact S6
    isplitl [S7]; · iexact S7
    isplitl [S8] <;> iassumption
  isplitl [O S0 S1]
  · iapply (pb_back m s c)
    isplitl [O]; · iexact O
    isplitl [S1] <;> iassumption
  isplitl [A S2 S3 S4]
  · iapply (acc_back m s c (sum3 m s c))
    isplitl [S2]; · iexact S2
    isplitl [S3]; · iexact S3
    isplitl [S4] <;> iassumption
  isplitr [L4]
  · isplitr [L3]
    · isplitr [L2]
      · isplitl [L1]; · iapply (Land_free m); iexact L1
        iapply (Land_free m); iexact L0
      · iapply (Land_free m); iexact L2
    · iapply (Land_free m); iexact L3
  · iapply (Land_free m); iexact L4

end Streams

/-- The stream a column belongs to, and the result of all devices: in each column what its stream computes. -/
def strm (k : ℕ) : Fin 3 := if k < 768 then 0 else if k < 1408 then 1 else 2
def outfun (r k : ℕ) : Elt F .bf16 := final m (strm k) r k
def outAt : (cc0_stg2_0 : Ref sig .tc).ty.Contents (Elt F) := fun j : (Mat 2048).Idx => outfun m (j 0).val (j 1).val

variable (c : Dev nD)

/-- The device's buffers at the start. -/
theorem enter_all : iprop((∃ f, ((c : Thread nD τ).loc cc0_stg2_0) ↦{fullShare} f) ∗ (∃ f, ((c : Thread nD τ).loc cc0_scratch0) ↦{fullShare} f)
      ∗ (∃ f, ((c : Thread nD τ).loc cc0_scratch1) ↦{fullShare} f) ∗ (∃ f, ((c : Thread nD τ).loc cc0_scratch2) ↦{fullShare} f))
    ⊢ iprop((Str m c 0 0 ∗ Str m c 1 0 ∗ Str m c 2 0) ∗ bigSep Finset.univ fun x : Lb => Free x c) := by
  have h₁ : iprop(∃ f, ((c : Thread nD τ).loc cc0_stg2_0) ↦{fullShare} f) ⊢ Room (F := F) outM c 0 2048 0 2048 :=
    Entails.of_eq (Room_whole outM c (View.set_whole _)).symm
  have h₂ : iprop(∃ f, ((c : Thread nD τ).loc cc0_scratch0) ↦{fullShare} f) ⊢ Room (F := F) pbM c 0 2048 0 2048 :=
    Entails.of_eq (Room_whole pbM c (View.set_whole _)).symm
  have h₃ : iprop(∃ f, ((c : Thread nD τ).loc cc0_scratch1) ↦{fullShare} f) ⊢ Room (F := F) accM c 0 1024 0 2048 :=
    Entails.of_eq (Room_whole accM c (View.set_whole _)).symm
  have h₄ : iprop(∃ f, ((c : Thread nD τ).loc cc0_scratch2) ↦{fullShare} f) ⊢ Room (F := F) rcvM c 0 1920 0 2048 :=
    Entails.of_eq (Room_whole rcvM c (View.set_whole _)).symm
  rw [bigSep_univ_prod, by_three]
  iintro ⟨Ho, Hp, Ha, Hr⟩
  ihave Ho := (h₁.trans (Entails.of_eq (Room_width c outM 0 2048))) $$ Ho
  ihave Hp := (h₂.trans (Entails.of_eq (Room_width c pbM 0 2048))) $$ Hp
  ihave Ha := (h₃.trans (Entails.of_eq (Room_width c accM 0 1024))) $$ Ha
  ihave Hr := (h₄.trans (Entails.of_eq (Room_width c rcvM 0 1920))) $$ Hr
  icases Ho with ⟨⟨O0, O1⟩, O2⟩
  icases Hp with ⟨⟨P0, P1⟩, P2⟩
  icases Ha with ⟨⟨A0, A1⟩, A2⟩
  icases Hr with ⟨⟨R0, R1⟩, R2⟩
  ihave H0 := (enter m c 0) $$ [O0 P0 A0 R0]
  · isplitl [O0]; · iexact O0
    isplitl [P0]; · iexact P0
    isplitl [A0] <;> iassumption
  ihave H1 := (enter m c 1) $$ [O1 P1 A1 R1]
  · isplitl [O1]; · iexact O1
    isplitl [P1]; · iexact P1
    isplitl [A1] <;> iassumption
  ihave H2 := (enter m c 2) $$ [O2 P2 A2 R2]
  · isplitl [O2]; · iexact O2
    isplitl [P2]; · iexact P2
    isplitl [A2] <;> iassumption
  icases H0 with ⟨S0, F0⟩
  icases H1 with ⟨S1, F1⟩
  icases H2 with ⟨S2, F2⟩
  isplitl [S0 S1 S2]
  · isplitl [S0]; · iexact S0
    isplitl [S1] <;> iassumption
  isplitl [F0]; · iexact F0
  isplitl [F1] <;> iassumption

theorem out_stream (s : Fin 3) (hs : ∀ j, col s ≤ j → j < col s + wid s → strm j = s) :
    Out m s c fullShare 0 2048 ⊢ Held outM c fullShare 0 2048 (col s) (wid s) 0 (outfun m) :=
  Held_congr outM c fun i j _ h h' => by unfold outfun; rw [hs j h h']

/-- The finished columns of the three streams are the whole result. -/
theorem out_all : iprop(Out m 0 c fullShare 0 2048 ∗ Out m 1 c fullShare 0 2048 ∗ Out m 2 c fullShare 0 2048)
    ⊢ ((c : Thread nD τ).loc cc0_stg2_0) ↦{fullShare} outAt m := by
  have h0 := out_stream m c 0 (fun j h h' => by simp only [col, wid, strm] at *; simp at h'; rw [if_pos h'])
  have h1 := out_stream m c 1 (fun j h h' => by simp only [col, wid, strm] at *; simp at h h'; rw [if_neg (by omega), if_pos (by omega)])
  have h2 := out_stream m c 2 (fun j h h' => by simp only [col, wid, strm] at *; simp at h h'; rw [if_neg (by omega), if_neg (by omega)])
  have hw : Held outM c fullShare 0 2048 0 (768 + 640 + 640) 0 (outfun m) ⊢ ((c : Thread nD τ).loc cc0_stg2_0) ↦{fullShare} outAt m := by
    show Held outM c fullShare 0 2048 0 2048 0 (outfun m) ⊢ _
    unfold Held
    rw [setOn_all outM (View.set_whole _)]
    iintro ⟨%B, %hB, H⟩
    have e : B = outAt m := by
      funext j
      have := hB j (by rw [box_all]; exact Finset.mem_univ _)
      rw [Nat.sub_zero, Nat.zero_add] at this
      exact this
    subst e
    iexact H
  iintro ⟨H0, H1, H2⟩
  ihave H0 := h0 $$ H0
  ihave H1 := h1 $$ H1
  ihave H2 := h2 $$ H2
  iapply hw
  iapply (Held_cols outM c fullShare 0 2048 0 (768 + 640) 640 0 (outfun m))
  isplitr [H2]
  · iapply (Held_cols outM c fullShare 0 2048 0 768 640 0 (outfun m))
    isplitl [H0]
    · iexact H0
    · iexact H1
  · iexact H2

/-- The device's buffers at the end. -/
theorem leave_all : iprop((Str m c 0 25 ∗ Str m c 1 25 ∗ Str m c 2 25) ∗ bigSep Finset.univ fun x : Lb => Src m x c)
    ⊢ iprop((((c : Thread nD τ).loc cc0_stg2_0) ↦{fullShare} outAt m) ∗ (∃ f, ((c : Thread nD τ).loc cc0_scratch0) ↦{fullShare} f)
      ∗ (∃ f, ((c : Thread nD τ).loc cc0_scratch1) ↦{fullShare} f) ∗ (∃ f, ((c : Thread nD τ).loc cc0_scratch2) ↦{fullShare} f)) := by
  have h₂ : Room (F := F) pbM c 0 2048 0 2048 ⊢ iprop(∃ f, ((c : Thread nD τ).loc cc0_scratch0) ↦{fullShare} f) :=
    Entails.of_eq (Room_whole pbM c (View.set_whole _))
  have h₃ : Room (F := F) accM c 0 1024 0 2048 ⊢ iprop(∃ f, ((c : Thread nD τ).loc cc0_scratch1) ↦{fullShare} f) :=
    Entails.of_eq (Room_whole accM c (View.set_whole _))
  have h₄ : Room (F := F) rcvM c 0 1920 0 2048 ⊢ iprop(∃ f, ((c : Thread nD τ).loc cc0_scratch2) ↦{fullShare} f) :=
    Entails.of_eq (Room_whole rcvM c (View.set_whole _))
  rw [bigSep_univ_prod, by_three]
  iintro ⟨⟨S0, S1, S2⟩, F0, F1, F2⟩
  ihave H0 := (leave m c 0) $$ [S0 F0]
  · isplitl [S0] <;> iassumption
  ihave H1 := (leave m c 1) $$ [S1 F1]
  · isplitl [S1] <;> iassumption
  ihave H2 := (leave m c 2) $$ [S2 F2]
  · isplitl [S2] <;> iassumption
  icases H0 with ⟨O0, P0, A0, R0⟩
  icases H1 with ⟨O1, P1, A1, R1⟩
  icases H2 with ⟨O2, P2, A2, R2⟩
  isplitl [O0 O1 O2]
  · iapply (out_all m c)
    isplitl [O0]; · iexact O0
    isplitl [O1] <;> iassumption
  isplitl [P0 P1 P2]
  · iapply ((Entails.of_eq (Room_width c pbM 0 2048).symm).trans h₂)
    isplitl [P0 P1]
    · isplitl [P0] <;> iassumption
    · iexact P2
  isplitl [A0 A1 A2]
  · iapply ((Entails.of_eq (Room_width c accM 0 1024).symm).trans h₃)
    isplitl [A0 A1]
    · isplitl [A0] <;> iassumption
    · iexact A2
  iapply ((Entails.of_eq (Room_width c rcvM 0 1920).symm).trans h₄)
  isplitl [R0 R1]
  · isplitl [R0] <;> iassumption
  · iexact R2

end Cert.Proof

end
-- ==== Proof.Credits.lean ====
module

public import proofs.«01_k».proof.Proof.Whole

/-!
# What the devices are owed

All devices together owe every barrier four units and every receive semaphore the size of the one transfer that comes to it,
so that every device starts with the credit for its waits.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What a list owes to one semaphore, entry by entry. -/
theorem owe_apply (d : Dev nD) (g : GSem nD τ sig) : ∀ l : List Ow, owe d l g () = (l.map fun o => if g = owCell d o then owAmt o else 0).sum
  | [] => rfl
  | o :: l => by
    rw [owe_cons, Pi.add_apply, Finsupp.add_apply, tallyAt_apply, owe_apply d g l, List.map_cons, List.sum_cons, Nat.add_comm]
    simp only [and_true]

/-- What all devices owe to one semaphore, entry by entry. -/
theorem owe_sum (g : GSem nD τ sig) (l : List Ow) :
    ∑ d : Dev nD, owe d l g () = (l.map fun o => ∑ d : Dev nD, if g = owCell d o then owAmt o else 0).sum := by
  rw [Finset.sum_congr rfl fun d _ => owe_apply d g l]
  induction l with
  | nil => exact Finset.sum_const_zero
  | cons o l ih =>
    simp only [List.map_cons, List.sum_cons]
    rw [Finset.sum_add_distrib, ih]

theorem kcell_injective : Function.Injective (kcell : Dev nD × Ck → GSem nD τ sig) := by
  rintro ⟨c, k⟩ ⟨c', k'⟩ h
  have h1 : c = c' := congrArg (fun g : GSem nD τ sig => g.1.1) h
  have h2 : csem k = csem k' := congrArg Prod.snd h
  rw [h1, csem_injective h2]

/-- The cell a duty is owed to, as a cell of the protocol. -/
def owKey (d : Dev nD) : Ow → Dev nD × Ck
  | .inl i => (gpeer i d, none)
  | .inr x => (mate x d, some (x, true))

theorem owCell_key (d : Dev nD) (o : Ow) : owCell d o = kcell (owKey d o) := by cases o <;> rfl

theorem sum_one (e : Dev nD → Dev nD) (he : ∀ d, e (e d) = d) (c : Dev nD) (n : ℕ) (p : Dev nD → Prop) [DecidablePred p] (hp : ∀ d, p d ↔ c = e d) :
    (∑ d : Dev nD, if p d then n else 0) = n := by
  rw [Fintype.sum_eq_single (e c) fun d hd => if_neg fun h => hd (by rw [(hp d).mp h, he]), if_pos ((hp _).mpr (he c).symm)]

/-- A barrier is owed one unit across each mask, -/
theorem owed_bar (c : Dev nD) : ∑ d : Dev nD, owe d obl (barCell c) () = 4 := by
  have hl : ∀ i : Fin 4, (∑ d : Dev nD, if barCell c = owCell d (.inl i) then owAmt (.inl i) else 0) = 1 := fun i => by
    exact sum_one (gpeer i) (gpeer_gpeer i) c 1 _ fun d => (kcell_injective.eq_iff (a := (c, none)) (b := (gpeer i d, none))).trans
      (by rw [Prod.mk.injEq, eq_self, and_true])
  have hr : ∀ x : Lb, (∑ d : Dev nD, if barCell c = owCell d (.inr x) then owAmt (.inr x) else 0) = 0 := fun x => by
    simp only [owCell_key, owKey]
    refine Finset.sum_eq_zero fun d _ => if_neg fun h => ?_
    have := kcell_injective (a₁ := (c, none)) h
    rw [Prod.mk.injEq] at this
    exact absurd this.2 (by simp)
  rw [owe_sum]
  unfold obl
  rw [List.map_append, List.sum_append, List.map_map]
  simp only [List.map_cons, List.map_nil, List.sum_cons, List.sum_nil, hl, Function.comp_def, hr]
  simp

/-- a receive semaphore what its one transfer brings. -/
theorem owed_rcv (y : Lb) (c : Dev nD) : ∑ d : Dev nD, owe d obl (rcvCell y c) () = amt y := by
  have hl : ∀ i : Fin 4, (∑ d : Dev nD, if rcvCell y c = owCell d (.inl i) then owAmt (.inl i) else 0) = 0 := fun i => by
    simp only [owCell_key, owKey]
    refine Finset.sum_eq_zero fun d _ => if_neg fun h => ?_
    have := kcell_injective (a₁ := (c, some (y, true))) h
    rw [Prod.mk.injEq] at this
    exact absurd this.2 (by simp)
  have hr : ∀ x : Lb, (∑ d : Dev nD, if rcvCell y c = owCell d (.inr x) then owAmt (.inr x) else 0) = if x = y then amt x else 0 := fun x => by
    simp only [owCell_key, owKey, owAmt]
    by_cases h : x = y
    · subst h
      rw [if_pos rfl]
      exact sum_one (mate x) (mate_mate x) c _ _ fun d => (kcell_injective.eq_iff (a := (c, some (x, true))) (b := (mate x d, some (x, true)))).trans
        (by rw [Prod.mk.injEq, eq_self, and_true])
    · rw [if_neg h]
      refine Finset.sum_eq_zero fun d _ => if_neg fun h' => h ?_
      have := kcell_injective (a₁ := (c, some (y, true))) h'
      rw [Prod.mk.injEq, Option.some_inj, Prod.mk.injEq] at this
      exact this.2.1.symm
  rw [owe_sum]
  unfold obl
  rw [List.map_append, List.sum_append, List.map_map]
  simp only [List.map_cons, List.map_nil, List.sum_cons, List.sum_nil, hl, Function.comp_def, hr]
  rw [← List.sum_toFinset _ sends_all.1, show sends.toFinset = Finset.univ from by ext x; simp [sends_all.2 x], Finset.sum_ite_eq' Finset.univ y,
    if_pos (Finset.mem_univ _)]
  simp

/-- What the devices owe at launch. -/
def O₀ (d : Dev nD) : CellTallies nD τ sig Unit := owe d obl

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same]; exact owed_bar c
theorem launch_rcv (x : Lb) (c : Dev nD) :
    tallyOn (rcvCell x c) (launchCredit (Pipeline.owing O₀) 0 (rcvCell x c)) = (tallyAt (rcvCell x c) () (amt x) : CellTallies nD τ sig Unit) := by
  unfold tallyAt; refine congrArg _ (Finsupp.ext fun u => ?_); cases u
  rw [Pipeline.launchCredit_owing, Finsupp.single_eq_same]; exact owed_rcv x c

/-- So every device has the credit for its waits. -/
theorem creds (c : Dev nD) :
    (Pipeline.launchCred O₀ c : sProp 𝕄) ⊢ iprop(cred (tallyAt (barCell c) () 4) ∗ bigSep Finset.univ fun x : Lb => cred (tallyAt (rcvCell x c) () (amt x))) := by
  unfold Pipeline.launchCred
  rw [bigSep_univ_at _ (SemLoc.reg barS), launch_bar]
  refine sep_mono_right ?_
  rw [bigSep_congr (s := (Finset.univ : Finset Lb)) fun x _ => by rw [← launch_rcv x c]]
  have hinj : Function.Injective fun x : Lb => (SemLoc.dma (semOf x true) : SemLoc sig) := fun x y h =>
    congrArg Prod.fst (Option.some_injective _ (csem_injective (a₁ := some (x, true)) (a₂ := some (y, true)) h))
  have hm := bigSep_map (s := (Finset.univ : Finset Lb)) ⟨_, hinj⟩
    (Φ := fun q => (cred (tallyOn ((c.tc : Thread nD τ), q) (launchCredit (Pipeline.owing O₀) 0 ((c.tc : Thread nD τ), q))) : sProp 𝕄))
  refine BIBase.Entails.trans (bigSep_subset fun q hq => ?_) (Entails.of_eq hm)
  obtain ⟨x, -, rfl⟩ := Finset.mem_map.mp hq
  have hne : (SemLoc.dma (semOf x true) : SemLoc sig) ≠ SemLoc.reg barS := fun h => by cases h
  exact Finset.mem_erase.mpr ⟨hne, Finset.mem_univ _⟩

end Cert.Proof

end
-- ==== Proof.Ghost.lean ====
module

public import proofs.«01_k».proof.Proof.Credits

/-!
# Setting the protocol up

Before any device runs, the invariants of all semaphores are set up at once, and the rights to pay are dealt to the devices
that pay.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The kernel's own semaphores: of each transfer the send and the receive one. -/
def osem (p : Lb × Bool) : SemLoc sig := csem (some p)

theorem ownSemFacts : Pipeline.OwnSemFacts spec0 osem :=
  ⟨by decide +kernel, fun a b h => Option.some_injective _ (csem_injective h), by decide +kernel⟩

/-- All cells of the protocol, and the right to pay each duty: four at a barrier, one at each other semaphore. -/
def allCells : Finset (GSem nD τ sig) := Finset.univ.map ⟨kcell, kcell_injective⟩

def tokOf (p : Dev nD × (Fin 4 ⊕ (Lb × Bool))) : GSem nD τ sig × ℕ × Fin 4 := match p.2 with
  | .inl i => (kcell (p.1, none), 0, i)
  | .inr x => (kcell (p.1, some x), 0, 0)

theorem tokOf_injective : Function.Injective tokOf := by
  rintro ⟨c, t⟩ ⟨c', t'⟩ h
  have hk := congrArg (fun y : GSem nD τ sig × ℕ × Fin 4 => y.1) h
  have hd := congrArg (fun y : GSem nD τ sig × ℕ × Fin 4 => y.2.2) h
  rcases t with i | x <;> rcases t' with i' | x' <;> simp only [tokOf] at hk hd <;> have hk := kcell_injective hk <;> rw [Prod.mk.injEq] at hk
  · rw [hk.1, hd]
  · exact absurd hk.2 (by simp)
  · exact absurd hk.2 (by simp)
  · rw [hk.1, Option.some_injective _ hk.2]

def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

section Deal
variable (c : Dev nD)

/-- The rights to pay the duties of the device's own cells; -/
def toks : sProp 𝕄 :=
  iprop((bigSep Finset.univ fun i : Fin 4 => dutyTok ER (barCell c) 0 i) ∗ bigSep Finset.univ fun p : Lb × Bool => dutyTok ER (kcell (c, some p)) 0 (0 : Fin 4))
/-- and those the device itself pays. -/
def payToks : sProp 𝕄 :=
  iprop((bigSep Finset.univ fun i : Fin 4 => dutyTok ER (barCell (gpeer i c)) 0 i)
    ∗ bigSep Finset.univ fun x : Lb => iprop(dutyTok ER (sndCell x c) 0 (0 : Fin 4) ∗ dutyTok ER (rcvCell x (mate x c)) 0 (0 : Fin 4)))

/-- What the launch deals a device; -/
def G : sProp 𝕄 :=
  iprop((bigSep Finset.univ fun k : Ck => roundState ER (Rd m) (kcell (c, k)) 0)
    ∗ (bigSep Finset.univ fun k : Ck => iprop(atPos ER (kcell (c, k)) 0 ∅ 0 ∗ reached ER (kcell (c, k)) 0)) ∗ toks c)

/-- what all devices know, without the levels; -/
def Know : sProp 𝕄 :=
  iprop(∃ κ : Dev nD × Ck → ℕ, (bigSep Finset.univ fun ck : Dev nD × Ck => cellInv ER (Rd m) (κ ck) (kcell ck))
    ∗ bigSep Finset.univ fun ck : Dev nD × Ck => reached ER (kcell ck) 0)
instance Know_persistent : BI.Persistent (Know (F := F) m) := by unfold Know; infer_instance

/-- and what a device has after all cells are set up. -/
def Mine : sProp 𝕄 := iprop((bigSep Finset.univ fun k : Ck => atPos ER (kcell (c, k)) 0 ∅ 0) ∗ payToks c)
def G' : sProp 𝕄 := iprop(Know m ∗ Mine c)

end Deal

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

section Sems
variable (c : Dev nD)

theorem ownSems0_eq : (Pipeline.ownSems0 (Ix := Unit) (Name := ℕ) (U := UU) (Lvl := ℕ) (Val := Elt F) (τ := τ) osem c : sProp 𝕄)
    = bigSep Finset.univ fun p : Lb × Bool => semVal (kcell (c, some p)) 0 := rfl
theorem unscopedSems0_eq : (unscopedSems0 c : sProp 𝕄) = semVal (barCell c) 0 := by
  unfold unscopedSems0; rw [bigSep_eq_bigSepL_of_eq [SemLoc.reg barS] (by decide) (by decide +kernel)]; rfl

theorem by_option (Φ : Ck → sProp 𝕄) : bigSep Finset.univ Φ = iprop(Φ none ∗ bigSep Finset.univ fun p : Lb × Bool => Φ (some p)) := by
  rw [bigSep_univ_at Φ none]
  have h : (Finset.univ.erase none : Finset Ck) = (Finset.univ : Finset (Lb × Bool)).map ⟨some, Option.some_injective _⟩ := by
    ext k; cases k <;> simp
  rw [h, bigSep_map]; rfl

theorem by_bool (Φ : Lb × Bool → sProp 𝕄) : bigSep Finset.univ Φ
    = iprop((bigSep Finset.univ fun x : Lb => Φ (x, false)) ∗ bigSep Finset.univ fun x : Lb => Φ (x, true)) := by
  rw [bigSep_univ_prod, ← bigSep_sep']
  exact bigSep_congr fun x _ => bigSep_univ_eq_bigSepL [false, true] (by decide) (by decide) _

theorem sems0_eq : iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [ownSems0_eq, unscopedSems0_eq, by_option]
  show _ ⊢ iprop(semVal (barCell c) 0 ∗ bigSep Finset.univ fun p : Lb × Bool => semVal (kcell (c, some p)) 0)
  iintro ⟨HS, HB⟩
  isplitl [HB] <;> iassumption

/-- The device's cells are set up; -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Ck => iprop(∃ κ : ℕ, cellInv ER (Rd m) κ (kcell (c, k))))
          ∗ (bigSep Finset.univ fun k : Ck => iprop(atPos ER (kcell (c, k)) 0 ∅ 0 ∗ reached ER (kcell (c, k)) 0)) ∗ toks c) := by
  have hinv : iprop((bigSep Finset.univ fun k : Ck => semVal (kcell (c, k)) 0) ∗ bigSep Finset.univ fun k : Ck => roundState ER (Rd m) (kcell (c, k)) 0)
      ⊢ (|={Set.univ}=> bigSep Finset.univ fun k : Ck => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod hinv $$ [Hv Hst] with Hinv
  · isplitl [Hv] <;> iassumption
  imodintro
  isplitl [Hinv]; · iexact Hinv
  isplitl [Hat] <;> iassumption

end Sems

/-- An involution of the devices. -/
def flip (e : Dev nD → Dev nD) (he : ∀ d, e (e d) = d) : Dev nD ≃ Dev nD := ⟨e, e, he, he⟩

/-- the rights are dealt to those who pay: across the masks, and to the mates. -/
theorem toks_around : (bigSep Finset.univ fun c : Dev nD => (toks c : sProp 𝕄)) ⊢ bigSep Finset.univ fun c : Dev nD => payToks c := by
  have hb : (bigSep Finset.univ fun c : Dev nD => bigSep Finset.univ fun i : Fin 4 => (dutyTok ER (barCell c) 0 i : sProp 𝕄))
      = bigSep Finset.univ fun c : Dev nD => bigSep Finset.univ fun i : Fin 4 => dutyTok ER (barCell (gpeer i c)) 0 i := by
    rw [bigSep_univ_comm, bigSep_univ_comm (fun (c : Dev nD) (i : Fin 4) => (dutyTok ER (barCell (gpeer i c)) 0 i : sProp 𝕄))]
    exact bigSep_congr fun i _ => bigSep_univ_equiv (flip (gpeer i) (gpeer_gpeer i)) _
  have hr : (bigSep Finset.univ fun c : Dev nD => bigSep Finset.univ fun x : Lb => (dutyTok ER (rcvCell x c) 0 (0 : Fin 4) : sProp 𝕄))
      = bigSep Finset.univ fun c : Dev nD => bigSep Finset.univ fun x : Lb => dutyTok ER (rcvCell x (mate x c)) 0 (0 : Fin 4) := by
    rw [bigSep_univ_comm, bigSep_univ_comm (fun (c : Dev nD) (x : Lb) => (dutyTok ER (rcvCell x (mate x c)) 0 (0 : Fin 4) : sProp 𝕄))]
    exact bigSep_congr fun x _ => bigSep_univ_equiv (flip (mate x) (mate_mate x)) _
  unfold toks payToks
  simp only [by_bool, bigSep_sep']
  iintro ⟨Hb, Hs, Hr⟩
  isplitl [Hb]; · iapply (Entails.of_eq hb); iexact Hb
  isplitl [Hs]; · iexact Hs
  iapply (Entails.of_eq hr); iexact Hr

theorem regroup :
    (bigSep Finset.univ fun c : Dev nD => iprop((bigSep Finset.univ fun k : Ck => iprop(∃ κ : ℕ, cellInv ER (Rd m) κ (kcell (c, k))))
          ∗ (bigSep Finset.univ fun k : Ck => iprop(atPos ER (kcell (c, k)) 0 ∅ 0 ∗ reached ER (kcell (c, k)) 0)) ∗ toks c) : sProp 𝕄)
      ⊢ bigSep Finset.univ (G' m) := by
  have hc : ∀ c : Dev nD, iprop(Know m ∗ Mine c) ⊢ G' m c := fun c => by unfold G'; exact BI.Entails.refl _
  have hm : iprop((bigSep Finset.univ fun c : Dev nD => bigSep Finset.univ fun k : Ck => (atPos ER (kcell (c, k)) 0 ∅ 0 : sProp 𝕄))
      ∗ bigSep Finset.univ fun c : Dev nD => payToks c) = bigSep Finset.univ fun c : Dev nD => (Mine c : sProp 𝕄) := by
    unfold Mine; rw [bigSep_sep']
  rw [bigSep_sep', bigSep_sep', ← bigSep_univ_prod (fun ck : Dev nD × Ck => iprop(∃ κ : ℕ, cellInv ER (Rd m) κ (kcell ck)))]
  simp only [bigSep_sep']
  rw [← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (Rd m) κ (kcell ck) : sProp 𝕄))) $$ HI
  icases HK with ⟨%κ, #HI⟩
  ihave Htk := (toks_around (F := F)) $$ Htok
  iapply (bigSep_with_persistent (R := Know m) (Φ := fun c : Dev nD => Mine c) fun c _ => hc c)
  isplitr
  · unfold Know; iexists κ
    isplitl; · iexact HI
    iexact HR
  · iapply (Entails.of_eq hm)
    isplitl [Hat] <;> iassumption

/-- All devices' cells are set up at once. -/
theorem glob : (bigSep Finset.univ fun c => iprop(Pipeline.ownSems0 (Ix := Unit) (Name := ℕ) (U := UU) (Lvl := ℕ) (Val := Elt F) (τ := τ) osem c
      ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-- A device's start, but for its buffers and what it owes. -/
def Start (c : Dev nD) : sProp 𝕄 :=
  iprop(Recs m ∗ atPos ER (barCell c) 0 ∅ 0 ∗ cred (tallyAt (barCell c) () 4)
    ∗ (bigSep Finset.univ fun i : Fin 4 => dutyTok ER (barCell (gpeer i c)) 0 i)
    ∗ (bigSep Finset.univ fun x : Lb => Tok0 c x) ∗ bigSep Finset.univ fun x : Lb => Exp c x)

theorem places_eq (c : Dev nD) : (bigSep Finset.univ fun k : Ck => (atPos ER (kcell (c, k)) 0 ∅ 0 : sProp 𝕄))
    = iprop(atPos ER (barCell c) 0 ∅ 0 ∗ (bigSep Finset.univ fun x : Lb => atPos ER (sndCell x c) 0 ∅ 0)
      ∗ bigSep Finset.univ fun x : Lb => atPos ER (rcvCell x c) 0 ∅ 0) := by
  rw [by_option, by_bool]; rfl

theorem start_of (c : Dev nD) : iprop(levAts L lv ∗ Pipeline.launchCred O₀ c ∗ G' m c) ⊢ Start m c := by
  unfold Start G' Know Mine payToks Tok0 Exp Recs
  simp only [bigSep_sep']
  rw [places_eq]
  iintro ⟨#Hlev, Hcr, ⟨%κ, #HI, #HR⟩, ⟨HaB, HaS, HaR⟩, Htb, Hts, Htr⟩
  ihave Hc := (creds (F := F) c) $$ Hcr
  icases Hc with ⟨HcB, HcR⟩
  isplitr
  · iexists κ; isplitr; · iexact HI
    isplitr; · iexact HR
    iexact Hlev
  isplitl [HaB]; · iexact HaB
  isplitl [HcB]; · iexact HcB
  isplitl [Htb]; · iexact Htb
  isplitl [Hts Htr HaS]
  · isplitl [Hts]; · iexact Hts
    isplitl [Htr] <;> iassumption
  isplitl [HaR] <;> iassumption

end Cert.Proof

end
-- ==== Proof.Launch.lean ====
module

public import proofs.«01_k».proof.Proof.Ghost
public import Idealize.ShloMosaic.Lib.Pipeline.CollectiveSegs

/-!
# The run of the kernel

The launch: what a device starts with and ends with, and that every fair run of all sixteen ends.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The state the program starts in. -/
abbrev s₀ : MemSt nD τ sig (Elt F) := ⟨m, fun _ => 0, ρ⟩

section Device
variable (c : Dev nD)

/-- The three buffers beside the windows, at any contents. -/
def Scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- Before the body and after it. -/
def Φ₀ : sProp 𝕄 := iprop(Start m c ∗ Scratch c)
def Φ₁ : sProp 𝕄 := iprop(Scratch c ∗ (bigSep Finset.univ fun p : Lb × Bool => semVal (kcell (c, some p)) 0) ∗ semVal (barCell c) 0)

end Device

/-- The data of the launch: the operands stay, the result becomes `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => wv m c
    | ⟨2, _⟩ => outAt m
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_x (t : Fin cfg0.N) : (cfg0.win (0 : Fin 3)).fetch t = true := by rw [fin_N0 t]; rfl
theorem fetch_w (t : Fin cfg0.N) : (cfg0.win (1 : Fin 3)).fetch t = true := by rw [fin_N0 t]; rfl

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem w_in (c : Dev nD) : (((c : Thread nD τ).loc cc0_stg1_0) ↦{fullShare} wv m c) ⊢ Held wM c fullShare 0 128 0 2048 0 (wfun m c) :=
  Held_whole wM c (View.set_whole _) _ _ fun j => by unfold wfun; rw [mk2_eq j rfl rfl]; rfl
theorem w_out (c : Dev nD) : Held wM c fullShare 0 128 0 2048 0 (wfun m c) ⊢ (((c : Thread nD τ).loc cc0_stg1_0) ↦{fullShare} wv m c) := by
  unfold Held
  rw [setOn_all wM (View.set_whole _)]
  iintro ⟨%B, %hB, H⟩
  have e : B = wv m c := by
    funext j
    have := hB j (by rw [box_all]; exact Finset.mem_univ _)
    rw [Nat.sub_zero, Nat.zero_add] at this
    unfold wfun at this
    rw [mk2_eq j rfl rfl] at this
    exact this
  subst e
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (xv m c) ∗ stg c cc0_stg1_0 (wv m c) ∗ stg c cc0_stg2_0 (outAt m))

/-- What the body ends with is what the launch wants back. -/
theorem done_post (c : Dev nD) : Done m c ⊢ bodyPost m ρ c := by
  unfold Done Ops Back bodyPost Φ₁ Scratch Owing
  rw [show backs.take 30 = backs from rfl, show backs.drop 30 = [] from rfl, sepL_univ _ waits_all, sepL_univ _ backs_all, sepL_univ _ backs_all, by_bool]
  unfold Dat.owesAt Pipeline.owesWithin RZero SZero
  iintro ⟨⟨Hx, Hw⟩, Hstr, HzB, HzR, -, ⟨%W, HO⟩, -, HzS, Hsrc⟩
  ihave Hb := (leave_all m c) $$ [Hstr Hsrc]
  · isplitl [Hstr] <;> iassumption
  icases Hb with ⟨Ho, H1, H2, H3⟩
  rw [show (dats m ρ 0 c).owed t0_0.succ = owe c [] from rfl]
  isplitl [H1 H2 H3 HzR HzS HzB]
  · isplitl [H1 H2 H3]
    · isplitl [H1]; · iexact H1
      isplitl [H2] <;> iassumption
    isplitl [HzR HzS]
    · isplitl [HzS]; · iexact HzS
      iexact HzR
    iexact HzB
  isplitl [HO]
  · iexists W
    isplitr; · ipureintro; exact fun _ _ => Or.inl trivial
    iexact HO
  isplitl [Hx]
  · iexists (xv m c); isplitr; · (ipureintro; rfl)
    iexact Hx
  isplitl [Hw]
  · iexists (wv m c); isplitr; · (ipureintro; rfl)
    iapply (w_out m c); iexact Hw
  iexists (outAt m); isplitr; · (ipureintro; rfl)
  iexact Ho

theorem pre_body (c : Dev nD) : bodyPre m ρ c ⊢ iprop(Ops m c ∗ (Str m c 0 0 ∗ Str m c 1 0 ∗ Str m c 2 0) ∗ Init m c) := by
  unfold bodyPre Φ₀ Scratch Start Init Ops Owing Dat.owesAt Pipeline.owesWithin
  rw [show (dats m ρ 0 c).owed t0_0.castSucc = owe c obl from rfl]
  iintro ⟨⟨⟨HR, HaB, HcB, Htb, HT, HE⟩, H1, H2, H3⟩, ⟨%W, -, HO⟩, ⟨%d0, %g0, %hg0, Hx⟩, ⟨%d1, %g1, %hg1, Hw⟩, ⟨%d2, %g2, -, Ho⟩⟩
  have hx : g0 = xv m c := by rw [hg0]; unfold Dat.before; rw [if_pos (fetch_x t0_0)]; rfl
  have hw : g1 = wv m c := by rw [hg1]; unfold Dat.before; rw [if_pos (fetch_w t0_0)]; rfl
  subst hx hw
  ihave Hb := (enter_all m c) $$ [Ho H1 H2 H3]
  · isplitl [Ho]; · iexists g2; iexact Ho
    isplitl [H1]; · iexact H1
    isplitl [H2] <;> iassumption
  icases Hb with ⟨Hstr, HF⟩
  isplitl [Hx Hw]
  · isplitl [Hx]; · iexact Hx
    iapply (w_in m c); iexact Hw
  isplitl [Hstr]; · iexact Hstr
  isplitl [HR]; · iexact HR
  isplitl [HO]; · iexists W; iexact HO
  isplitl [HaB]; · iexact HaB
  isplitl [HcB]; · iexact HcB
  isplitl [Htb]; · iexact Htb
  isplitl [HF]; · iexact HF
  isplitl [HT] <;> iassumption

theorem body_pre_post (c : Dev nD) : bodyPre m ρ c ⊢ Wp c (onBufs (cc0_body (F := F))) fun _ => bodyPost m ρ c := by
  refine BIBase.Entails.trans (pre_body m ρ c) ?_
  iintro H
  iapply (body m c fun _ => bodyPost m ρ c) $$ H
  iintro H
  iapply (done_post m ρ c); iexact H

set_option maxRecDepth 100000 in
/-- The launch's obligation for the body on a device. -/
theorem body_obligation (c : Dev nD) : BodyObligation (dats (F := F) m ρ 0 c) (defs₀ (F := F)) 𝒱₀ () Set.univ := fun t => by
  rw [fin_N0 t]
  rw [bigSep_W0, bigSep_W0]
  simp only [owns_buf]
  exact body_pre_post m ρ c

/-! ## The conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c) ⊢ |={Set.univ}=> iprop(Start m c ∗ emp) := by
  iintro ⟨-, Hlev, Hcr, -, HG⟩
  imodintro
  isplitl
  · iapply (start_of m c)
    isplitl [Hlev]; · iexact Hlev
    isplitl [Hcr] <;> iassumption
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ Scratch
  iintro ⟨Hr, Hz, HzB⟩
  isplitl [HzB]; · iexact HzB
  isplitl [Hz] <;> iassumption

theorem stage_low : ∀ (w : Fin cfg0.W) (s : Fin (cfg0.win w).nbuf), who (.dma ((cfg0.win w).sem s)) = none := by decide +kernel
theorem obl_high : ∀ o ∈ obl, 0 < owLev o := by decide +kernel

theorem stage_wait (c : Dev nD) (q : DmaSem sig) (hq : who (.dma q) = none) (l : List Ow) (hl : ∀ o ∈ l, 0 < owLev o) :
    (levAts L lv : sProp 𝕄) ⊢ MayWait (c : Thread nD τ) (.dma q) () (owe c l) :=
  mayWait c (.dma q) 0 l (by unfold lv; rw [hq]) hl

theorem stage_waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact stage_wait c _ (stage_low w s) obl obl_high
    · exact stage_wait c _ (stage_low w s) [] fun o ho => by cases ho

/-! ## The run -/

/-- What a window's array holds after the run. -/
def finalA (c : Dev nD) (w : Fin cfg0.W) : Buf (Elt F) ((cfg0.win w).arr.view.loc (c : Thread nD τ)) := (dats m ρ 0 c).arrAt w cfg0.N

set_option maxRecDepth 100000 in
/-- Every fair run of the kernel on all devices ends, with every semaphore at zero and the windows' arrays at `finalA`. -/
theorem run_windows : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := Start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Proof

end
-- ==== Proof.Result.lean ====
module

public import proofs.«01_k».proof.Proof.Launch
public import Idealize.ShloMosaic.Lib.Pipeline.ValueKit.Geometry

/-!
# What the run leaves
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

theorem end_x (c : Dev nD) : finalA m ρ c (0 : Fin 3) = m ((c : Thread nD τ).loc main_arg0) := (dats m ρ 0 c).arrAt_in (0 : Fin 3) rfl _
theorem end_w (c : Dev nD) : finalA m ρ c (1 : Fin 3) = m ((c : Thread nD τ).loc main_arg1) := (dats m ρ 0 c).arrAt_in (1 : Fin 3) rfl _
/-- The one write-back of the result fills its array. -/
theorem end_out (c : Dev nD) : finalA m ρ c (2 : Fin 3) = outAt m :=
  (dats m ρ 0 c).arrAt_eq_of_after_last (2 : Fin 3) t0_0 (by decide +kernel) _ fun j => rfl

/-- From any memory every fair run of the kernel ends, on each device with the two operands as they were and the result
    at `outAt`, and every semaphore at zero. -/
theorem run_main : θ_run defs (onTc (τ := τ) (main (F := F))) ⟨m, fun _ => 0, ρ⟩ (fun r =>
    (∀ c : Dev nD, r.2.mem ((c : Thread nD τ).loc main_v1) = outAt m
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (end_out m ρ c), (h.1 c (0 : Fin 3)).trans (end_x m ρ c),
    (h.1 c (1 : Fin 3)).trans (end_w m ρ c)⟩, h.2⟩) (run_windows m ρ)

end Cert.Proof

end
-- ==== Proof.Values.lean ====
module

public import proofs.«01_k».proof.Proof.Result
public import Idealize.ShloMosaic.Lib.Pointwise

/-!
# The result as a product of matrices

Over the reals: what the sixteen devices add up is the whole product, cut below at zero.
-/

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ)

/-! ## A hypercube's sum -/

/-- From `c` across the masks chosen by four bits, last mask first. -/
def reach (s : Fin 3) (c : Dev nD) (b : Fin 2 × Fin 2 × Fin 2 × Fin 2) : Dev nD :=
  let go (j : Fin 4) (x : Fin 2) (d : Dev nD) : Dev nD := if x = 0 then d else peer s j d
  go 0 b.2.2.2 (go 1 b.2.2.1 (go 2 b.2.1 (go 3 b.1 c)))

/-- Every device is reached once. -/
theorem reach_bij : ∀ (s : Fin 3) (c : Dev nD), Function.Bijective (reach s c) := by decide +kernel

/-- So the sum the four exchanges add up is the sum over all devices. -/
theorem sum4_eq (s : Fin 3) (c : Dev nD) (r k : ℕ) : sum4 m s c r k = ∑ d : Dev nD, (show EReal from part m s d r k) := by
  rw [← (reach_bij s c).sum_comp (fun d => (show EReal from part m s d r k))]
  simp only [Fintype.sum_prod_type, Fin.sum_univ_two]
  rfl

/-! ## A device's product -/

theorem xv_apply (c : Dev nD) (j) : xv m c j = m ((c : Thread nD τ).loc main_arg0) j := by
  have h : ∀ a, win0_0.index (0 : Fin 1) a = 0 := by decide +kernel
  unfold xv; blk_simp; blk_ext [h 0, h 1]
theorem wv_apply (c : Dev nD) (j) : wv m c j = m ((c : Thread nD τ).loc main_arg1) j := by
  have h : ∀ a, win0_1.index (0 : Fin 1) a = 0 := by decide +kernel
  unfold wv; blk_simp; blk_ext [h 0, h 1]

/-- The product of a device's two blocks at row `r` and column `k`. -/
def prod (c : Dev nD) (r k : Fin 2048) : EReal :=
  ∑ t : Fin 128, (show EReal from m ((c : Thread nD τ).loc main_arg0) (ix2 r t)) * (show EReal from m ((c : Thread nD τ).loc main_arg1) (ix2 t k))

theorem pay1_dot (x : Vec Ideal S2048x128 .bf16) (w : Vec Ideal S128x768 .bf16) (j : S2048x768.Idx) :
    (k0_pay1 x w j : EReal) = ∑ t : Fin 128, (x (ix2 (j 0) t) : EReal) * w (ix2 t (j 1)) := by
  pointwise [k0_pay1]
theorem pay2_dot (x : Vec Ideal S2048x128 .bf16) (w : Vec Ideal S128x640 .bf16) (j : S2048x640.Idx) :
    (k0_pay2 x w j : EReal) = ∑ t : Fin 128, (x (ix2 (j 0) t) : EReal) * w (ix2 t (j 1)) := by
  pointwise [k0_pay2]
theorem pay3_dot (x : Vec Ideal S2048x128 .bf16) (w : Vec Ideal S128x640 .bf16) (j : S2048x640.Idx) :
    (k0_pay3 x w j : EReal) = ∑ t : Fin 128, (x (ix2 (j 0) t) : EReal) * w (ix2 t (j 1)) := by
  pointwise [k0_pay3]

/-- What a device computes in the columns of a stream is its product there. -/
theorem part_eq (c : Dev nD) (r k : Fin 2048) : (part m (strm k.val) c r.val k.val : EReal) = prod m c r k := by
  have hw (n : ℕ) (t : Fin 128) (a : ℕ) (h : n + a = k.val) : (wfun m c (0 + (0 - 0) + t.val) (n + a) : EReal) = m ((c : Thread nD τ).loc main_arg1) (ix2 t k) := by
    unfold wfun
    rw [mk2_eq (R := 128) (C := 2048) (ix2 t k) (by simp) h]
    exact wv_apply m c _
  have hr : (⟨r.val % 2048, Nat.mod_lt _ (by decide)⟩ : Fin 2048) = r := Fin.ext (Nat.mod_eq_of_lt r.isLt)
  have hx (t : Fin 128) : (xv m c (ix2 (⟨r.val % 2048, Nat.mod_lt _ (by decide)⟩ : Fin 2048) t) : EReal) = m ((c : Thread nD τ).loc main_arg0) (ix2 r t) := by
    rw [hr]; exact xv_apply m c _
  unfold strm
  split
  · refine (pay1_dot _ _ _).trans (Finset.sum_congr rfl fun t _ => congrArg₂ (· * ·) (hx t) ?_)
    exact hw 0 t ((k.val - 0) % 768) (by omega)
  split
  · refine (pay2_dot _ _ _).trans (Finset.sum_congr rfl fun t _ => congrArg₂ (· * ·) (hx t) ?_)
    exact hw 768 t ((k.val - 768) % 640) (by omega)
  · refine (pay3_dot _ _ _).trans (Finset.sum_congr rfl fun t _ => congrArg₂ (· * ·) (hx t) ?_)
    exact hw 1408 t ((k.val - 1408) % 640) (by omega)

/-! ## The result -/

/-- The kernel's result at row `r` and column `k`: the devices' products added up, cut below at zero. -/
theorem out_eq (r k : Fin 2048) : (outAt m (ix2 r k) : EReal) = max (∑ d : Dev nD, prod m d r k) 0 := by
  have h : (outAt m (ix2 r k) : EReal) = max (sum4 m (strm k.val) (owner (strm k.val) (r.val / 128)) r.val k.val : EReal) 0 := by
    show (clip (F := Ideal) _ : EReal) = _
    unfold clip
    pointwise
  rw [h, sum4_eq]
  exact congrArg (fun z : EReal => max z 0) (Finset.sum_congr rfl fun d _ => part_eq m d r k)

/-- A sum over the sixteen blocks of 128 is the sum over all 2048. -/
theorem sum_blocks (f : Fin 2048 → EReal) : ∑ d : Fin 16, ∑ t : Fin 128, f ⟨d.val * 128 + t.val, by omega⟩ = ∑ i, f i := by
  rw [← Fintype.sum_prod_type' (fun (d : Fin 16) (t : Fin 128) => f ⟨d.val * 128 + t.val, by omega⟩)]
  refine Fintype.sum_equiv finProdFinEquiv _ _ fun p => congrArg f (Fin.ext ?_)
  show p.1.val * 128 + p.2.val = p.2.val + 128 * p.1.val
  omega

end Cert.Proof

end
-- ==== Proof.Agree.lean ====
module

public import proofs.«01_k».proof.Defs
public import proofs.«01_k».proof.Proof.Values
public import proofs.«01_k».proof.Proof.Gen.Kernel
public import proofs.«01_k».proof.Proof.Gen.ReferenceIdeal.Run

/-!
# The claims

Every run of the kernel and of the reference ends as it should; and the kernel's result is the reference's.
-/

@[expose] public section

noncomputable section

namespace Cert.Proof

open Idealize.ShloMosaic
open Idealize.ShloMosaic.TcCoe
open Idealize.SL.Sem

/-! ## The reference's result -/

section Reference
open Cert.ReferenceIdeal Cert.ReferenceIdeal.Gen

/-- What the reference returns. -/
def refOut (m' : (ℓ : Loc nD τ sig) → Buf (Elt Ideal) ℓ) : FVec Ideal S2048x2048 .bf16 :=
  truncf .bf16 (maximumf (Host.dotGeneral dot_S2048x2048_S2048x2048_S2048x2048_1_0_0_1_n_n none
    (extf .f32 (m' ((0 : Dev nD).tc.loc main_arg0)) bitsLt_bf16_f32) (extf .f32 (m' ((0 : Dev nD).tc.loc main_arg1)) bitsLt_bf16_f32))
    (broadcastInDim S2048x2048 ![] bcast_S_S2048x2048 (constant S_ .f32 0x00000000#32))) bitsLt_bf16_f32

/-- At row `r` and column `k` it is the product of the two matrices, cut below at zero. -/
theorem refOut_eq (m' : (ℓ : Loc nD τ sig) → Buf (Elt Ideal) ℓ) (r k : Fin 2048) : (refOut m' (ix2 r k) : EReal)
    = max (∑ i : Fin 2048, (show EReal from m' ((0 : Dev nD).tc.loc main_arg0) (ix2 r i)) * (show EReal from m' ((0 : Dev nD).tc.loc main_arg1) (ix2 i k))) 0 := by
  unfold refOut
  pointwise

theorem frame_reference : Cert.quiescent_ReferenceIdeal := fun m' ρ _ =>
  (θ_run defs _ _).mono (fun r h => ⟨fun c => (h c).2, sem_eq_zero_of_no_sems (by decide) r.2⟩) (Cert.ReferenceIdeal.Value.run m' ρ)

end Reference

section Kernel
open Cert.KernelIdeal

/-- The devices hold slices of the whole matrices, so the sum over the devices of the sums within a slice is one sum: the
    kernel's result is the reference's. -/
theorem out_ref (m : (ℓ : Loc nD τ sig) → Buf (Elt Ideal) ℓ)
    (m' : (ℓ : Loc Cert.ReferenceIdeal.nD Cert.ReferenceIdeal.τ Cert.ReferenceIdeal.sig) → Buf (Elt Ideal) ℓ)
    (hx : ∀ c : Dev nD, m ((c : Thread nD τ).loc main_arg0) = Layout.block ⟨2, ![2048, 128]⟩ ⟨2, ![2048, 2048]⟩ 1 16 c
      (m' ((0 : Dev Cert.ReferenceIdeal.nD).tc.loc Cert.ReferenceIdeal.main_arg0)))
    (hw : ∀ c : Dev nD, m ((c : Thread nD τ).loc main_arg1) = Layout.block ⟨2, ![128, 2048]⟩ ⟨2, ![2048, 2048]⟩ 0 16 c
      (m' ((0 : Dev Cert.ReferenceIdeal.nD).tc.loc Cert.ReferenceIdeal.main_arg1))) :
    outAt m = refOut m' := by
  funext j
  rw [show j = ix2 (j 0) (j 1) from eq_ix2 j]
  refine (out_eq m (j 0) (j 1)).trans (Eq.trans ?_ (refOut_eq m' (j 0) (j 1)).symm)
  refine congrArg (fun z : EReal => max z 0) (Eq.trans ?_ (sum_blocks _))
  refine Finset.sum_congr rfl fun d _ => Finset.sum_congr rfl fun t _ => congrArg₂ (fun a b : EReal => a * b) ?_ ?_
  · rw [hx d, Layout.block_apply]
    refine congrArg _ (eq_ix2 _ |>.trans ?_)
    congr 1
  · rw [hw d, Layout.block_apply]
    refine congrArg _ (eq_ix2 _ |>.trans ?_)
    congr 1

theorem frame_kernelIdeal : Cert.quiescent_KernelIdeal := fun m ρ _ =>
  (θ_run defs _ _).mono (fun _ h => ⟨fun c => (h.1 c).2, h.2⟩) (run_main m ρ)

/-- The kernel over machine words is the same text, -/
theorem body_same : Cert.Kernel.defs₀ (F := Bits) = defs₀ (F := Bits) := by
  unfold Cert.Kernel.defs₀ defs₀
  refine congrArg Defs.onTc (funext fun l => funext fun x => ?_)
  match l, x with
  | 0, (t, s) => exact rfl
  | ⟨_ + 1, h⟩, _ => exact absurd h (Nat.not_lt.2 (Nat.le_add_left _ _))

theorem defs_same : Cert.Kernel.defs (F := Bits) = defs (F := Bits) := congrArg (Pipeline.defs pcfgs) body_same

/-- so its runs are the same. -/
theorem frame_kernel : Cert.quiescent_Kernel := fun m ρ _ => by
  rw [defs_same]
  exact (θ_run defs _ _).mono (fun _ h => ⟨fun c => (h.1 c).2, h.2⟩) (run_main (F := Bits) m ρ)

/-- The kernel's result on every device is the reference's. -/
theorem agree : Cert.algebraic_KernelIdeal_ReferenceIdeal := fun m ρ m' ρ' _ h =>
  ⟨refOut m', (θ_run defs _ _).mono (fun _ hr c => ⟨((hr.1 c).1).trans (out_ref m m' (fun c => (h c).1) fun c => (h c).2), (hr.1 c).2⟩) (run_main m ρ),
    (θ_run Cert.ReferenceIdeal.defs _ _).mono (fun _ hr => hr 0) (Cert.ReferenceIdeal.Value.run m' ρ')⟩

end Kernel

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Agree

/-!
# The certificate

The three programs' runs end with their arguments unchanged and every semaphore at zero, the kernel read over the reals is
the kernel, and its result is the reference's.
-/

@[expose] public section

noncomputable section

namespace Cert.Proof

theorem claim : Cert.Claim :=
  ⟨Cert.Kernel.Gen.facts, Cert.KernelIdeal.Gen.facts, Cert.ReferenceIdeal.Gen.facts,
    frame_kernel, frame_kernelIdeal, frame_reference, trivial, agree⟩

end Cert.Proof

end
